-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S8192x1024 : Shape := ⟨2, ![8192, 1024]⟩
abbrev S2x512x1024 : Shape := ⟨3, ![2, 512, 1024]⟩
abbrev S2 : Shape := ⟨1, ![2]⟩
abbrev S8 : Shape := ⟨1, ![8]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S8192x1024, .f32⟩
  | .local _ .vmem, ⟨0, _⟩ => ⟨S2x512x1024, .f32⟩
  | .local _ .vmem, ⟨1, _⟩ => ⟨S4096x1024, .bf16⟩
  | .local _ .vmem, ⟨2, _⟩ => ⟨S4096x1024, .bf16⟩
  | .local _ .vmem, ⟨3, _⟩ => ⟨S2x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v17 : BitVec 32 := Scalar.muli v5 c4096_i32
  let c0_i32_7 : BitVec 32 := 0#32
  ![v17.toNat, 0]
def k0_dev2 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v40 : BitVec 32 := Scalar.muli v2 c8_i32_32
  let v41 : BitVec 32 := Scalar.addi c0_i32_33 v40
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_34 : BitVec 32 := 4#32
  let v42 : BitVec 32 := Scalar.muli v9 c4_i32_34
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v44 : BitVec 32 := Scalar.muli v8 c1_i32_35
  let v45 : BitVec 32 := Scalar.addi v43 v44
  v45.toNat
def k0_dev3 (d0 : Dev nD) : Nat :=
  let c0_i32_57 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_56 : BitVec 32 := 8#32
  let v68 : BitVec 32 := Scalar.muli v2 c8_i32_56
  let v69 : BitVec 32 := Scalar.addi c0_i32_57 v68
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_58 : BitVec 32 := 4#32
  let v70 : BitVec 32 := Scalar.muli v9 c4_i32_58
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v72 : BitVec 32 := Scalar.muli v8 c1_i32_59
  let v73 : BitVec 32 := Scalar.addi v71 v72
  v73.toNat
def k0_dev4 (d0 : Dev nD) : Nat :=
  let c0_i32_82 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_81 : BitVec 32 := 8#32
  let v96 : BitVec 32 := Scalar.muli v2 c8_i32_81
  let v97 : BitVec 32 := Scalar.addi c0_i32_82 v96
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_83 : BitVec 32 := 4#32
  let v98 : BitVec 32 := Scalar.muli v9 c4_i32_83
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_84 : BitVec 32 := 1#32
  let v100 : BitVec 32 := Scalar.muli v8 c1_i32_84
  let v101 : BitVec 32 := Scalar.addi v99 v100
  v101.toNat
def k0_dev5 (d0 : Dev nD) : Nat :=
  let c0_i32_106 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_105 : BitVec 32 := 8#32
  let v124 : BitVec 32 := Scalar.muli v2 c8_i32_105
  let v125 : BitVec 32 := Scalar.addi c0_i32_106 v124
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_107 : BitVec 32 := 4#32
  let v126 : BitVec 32 := Scalar.muli v9 c4_i32_107
  let v127 : BitVec 32 := Scalar.addi v125 v126
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v128 : BitVec 32 := Scalar.muli v8 c1_i32_108
  let v129 : BitVec 32 := Scalar.addi v127 v128
  v129.toNat
def k0_dev6 (d0 : Dev nD) : Nat :=
  let c0_i32_131 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_130 : BitVec 32 := 8#32
  let v152 : BitVec 32 := Scalar.muli v2 c8_i32_130
  let v153 : BitVec 32 := Scalar.addi c0_i32_131 v152
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_132 : BitVec 32 := 4#32
  let v154 : BitVec 32 := Scalar.muli v9 c4_i32_132
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v156 : BitVec 32 := Scalar.muli v8 c1_i32_133
  let v157 : BitVec 32 := Scalar.addi v155 v156
  v157.toNat
def k0_dev7 (d0 : Dev nD) : Nat :=
  let c0_i32_155 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_154 : BitVec 32 := 8#32
  let v180 : BitVec 32 := Scalar.muli v2 c8_i32_154
  let v181 : BitVec 32 := Scalar.addi c0_i32_155 v180
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_156 : BitVec 32 := 4#32
  let v182 : BitVec 32 := Scalar.muli v9 c4_i32_156
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_157 : BitVec 32 := 1#32
  let v184 : BitVec 32 := Scalar.muli v8 c1_i32_157
  let v185 : BitVec 32 := Scalar.addi v183 v184
  v185.toNat
def k0_dev8 (d0 : Dev nD) : Nat :=
  let c0_i32_179 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_178 : BitVec 32 := 8#32
  let v208 : BitVec 32 := Scalar.muli v2 c8_i32_178
  let v209 : BitVec 32 := Scalar.addi c0_i32_179 v208
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_180 : BitVec 32 := 4#32
  let v210 : BitVec 32 := Scalar.muli v9 c4_i32_180
  let v211 : BitVec 32 := Scalar.addi v209 v210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_181 : BitVec 32 := 1#32
  let v212 : BitVec 32 := Scalar.muli v8 c1_i32_181
  let v213 : BitVec 32 := Scalar.addi v211 v212
  v213.toNat
def k0_dev9 (d0 : Dev nD) : Nat :=
  let c0_i32_198 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_197 : BitVec 32 := 8#32
  let v231 : BitVec 32 := Scalar.muli v2 c8_i32_197
  let v232 : BitVec 32 := Scalar.addi c0_i32_198 v231
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_199 : BitVec 32 := 4#32
  let v233 : BitVec 32 := Scalar.muli v9 c4_i32_199
  let v234 : BitVec 32 := Scalar.addi v232 v233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v235 : BitVec 32 := Scalar.muli v8 c1_i32_200
  let v236 : BitVec 32 := Scalar.addi v234 v235
  v236.toNat
def k0_off2 (d0 : Dev nD) (c0_i32_222 : BitVec 32) : Fin 2 → Nat :=
  let c1_i32_220 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v258 : BitVec 32 := Scalar.subi c1_i32_220 v5
  let c4096_i32_221 : BitVec 32 := 4096#32
  let v259 : BitVec 32 := Scalar.muli v258 c4096_i32_221
  let v260 : BitVec 32 := Scalar.addi v259 c0_i32_222
  let c0_i32_225 : BitVec 32 := 0#32
  ![v260.toNat, 0]
-- ==== ReferenceIdeal.lean ====
abbrev S8192x1024 : Shape := ⟨2, ![8192, 1024]⟩

abbrev nBuf : Space → Nat
  | .hbm => 1
  | .vmem => 0
  | .smem => 0
  | _ => 0

abbrev bufTy : (tb : Table) → Fin (tcTables nBuf tb) → BufTy
  | .hbm, ⟨0, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Places.lean ====
/-
  Where everything lies: the peer of a device, the memrefs the kernel's steps name — each given once, for a chunk
  number `k : Fin 8` or a slot `s : Fin 2` —, its semaphores, and the contents the buffers come to hold.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The peer: the device at the same place of the mesh's axes x and z, at the other place of its axis y -/

set_option backward.proofsInPublic true in
def peer (c : Dev nD) : Dev nD := ⟨(8 * (c.val / 8) + c.val % 4 + 4) - 4 * ((c.val / 4) % 2), by have := c.isLt; simp only [nD] at *; omega⟩

theorem peer_peer (c : Dev nD) : peer (peer c) = c := by revert c; decide
theorem peer_ne (c : Dev nD) : peer c ≠ c := by revert c; decide

/-- The devices, each sent to its peer. -/
def swap : Dev nD ≃ Dev nD := ⟨peer, peer, peer_peer, peer_peer⟩

theorem sig_dev (c : Dev nD) : (⟨k0_dev1 c, k0_dev1_lt c⟩ : Dev nD) = peer c := Fin.ext (k0_dev1_eq c)

/-- The device the `k`-th transfer is addressed to, as the kernel computes it. -/
def rdev (c : Dev nD) : Fin 8 → Dev nD
  | 0 => ⟨k0_dev2 c, k0_dev2_lt c⟩ | 1 => ⟨k0_dev3 c, k0_dev3_lt c⟩ | 2 => ⟨k0_dev4 c, k0_dev4_lt c⟩
  | 3 => ⟨k0_dev5 c, k0_dev5_lt c⟩ | 4 => ⟨k0_dev6 c, k0_dev6_lt c⟩ | 5 => ⟨k0_dev7 c, k0_dev7_lt c⟩
  | 6 => ⟨k0_dev8 c, k0_dev8_lt c⟩ | 7 => ⟨k0_dev9 c, k0_dev9_lt c⟩

theorem rdev_eq (c : Dev nD) (k : Fin 8) : rdev c k = peer c := by
  fin_cases k
  exacts [Fin.ext (k0_dev2_eq c), Fin.ext (k0_dev3_eq c), Fin.ext (k0_dev4_eq c), Fin.ext (k0_dev5_eq c),
    Fin.ext (k0_dev6_eq c), Fin.ext (k0_dev7_eq c), Fin.ext (k0_dev8_eq c), Fin.ext (k0_dev9_eq c)]

/-! ## The memrefs -/

abbrev chOff (k : Fin 8) : Fin 2 → ℕ := ![512 * k.val, 0]
theorem ch_inb (k : Fin 8) : ∀ a, chOff k a + S512x1024.size a ≤ S4096x1024.size a := by revert k; decide
/-- Chunk `k`: rows `512 k` to `512 k + 511`. -/
abbrev chR (k : Fin 8) : Rect S4096x1024 := Rect.unit (s := S4096x1024) (chOff k) S512x1024.size (ch_inb k)

theorem sl_inb (s : Fin 2) : ∀ a, (![s.val, 0, 0] : Fin 3 → ℕ) a + S1x512x1024.size a ≤ S2x512x1024.size a := by revert s; decide
/-- Slot `s` of a buffer of two. -/
abbrev slR (s : Fin 2) : Rect S2x512x1024 := Rect.unit (s := S2x512x1024) ![s.val, 0, 0] S1x512x1024.size (sl_inb s)

abbrev xM : Memref sig .tc .hbm S4096x1024 .f32 := Memref.whole main_arg0
abbrev oM : Memref sig .tc .hbm S8192x1024 .f32 := Memref.whole main_v1
abbrev fM : Memref sig .tc .vmem S2x512x1024 .f32 := Memref.whole cc0_scratch0
abbrev bM : Memref sig .tc .vmem S4096x1024 .bf16 := Memref.whole cc0_scratch1
abbrev rM : Memref sig .tc .vmem S4096x1024 .bf16 := Memref.whole cc0_scratch2
abbrev gM : Memref sig .tc .vmem S2x512x1024 .f32 := Memref.whole cc0_scratch3

/-- The kernel's own input's chunk, the chunk as sent, the chunk as received. -/
abbrev xCh (k : Fin 8) : Memref sig .tc .hbm S512x1024 .f32 := xM.slice (chR k) (fun _ => rfl)
abbrev bCh (k : Fin 8) : Memref sig .tc .vmem S512x1024 .bf16 := bM.slice (chR k) (fun _ => rfl)
abbrev rCh (k : Fin 8) : Memref sig .tc .vmem S512x1024 .bf16 := rM.slice (chR k) (fun _ => rfl)
/-- The slots a chunk is read into and written out of. -/
abbrev fSl (s : Fin 2) : Memref sig .tc .vmem S512x1024 .f32 := (fM.slice (slR s) (fun _ => rfl)).squeeze S512x1024 squeezes_S1x512x1024_S512x1024
abbrev gSl (s : Fin 2) : Memref sig .tc .vmem S512x1024 .f32 := (gM.slice (slR s) (fun _ => rfl)).squeeze S512x1024 squeezes_S1x512x1024_S512x1024
/-- The result's half that is the device's own, and its other half's chunks. -/
abbrev oOwn (c : Dev nD) : Memref sig .tc .hbm S4096x1024 .f32 :=
  oM.slice (Rect.unit (s := S8192x1024) (k0_off1 c) S4096x1024.size (k0_off1_inb c)) (fun _ => rfl)
abbrev oCh (c : Dev nD) (k : Fin 8) : Memref sig .tc .hbm S512x1024 .f32 :=
  oM.slice (Rect.unit (s := S8192x1024) (k0_off2 c (BitVec.ofNat 32 (512 * k.val))) S512x1024.size (k0_off2_inb c k)) (fun _ => rfl)

/-! ## The semaphores -/

abbrev barS : Sem sig := (SemArray.scalar (sig.barrier 0 rfl) : Sems sig S_).sem

theorem s2_inb (s : Fin 2) : ∀ a, (![s.val] : Fin 1 → ℕ) a + S1.size a ≤ S2.size a := by revert s; decide
theorem s8_inb (k : Fin 8) : ∀ a, (![k.val] : Fin 1 → ℕ) a + S1.size a ≤ S8.size a := by revert k; decide
abbrev inS (s : Fin 2) : DmaSem sig := ((cc0_scratch4.slice (Rect.unit (s := S2) ![s.val] S1.size (s2_inb s))).squeeze S_ squeezes_S1_S_).sem
abbrev outS (s : Fin 2) : DmaSem sig := ((cc0_scratch5.slice (Rect.unit (s := S2) ![s.val] S1.size (s2_inb s))).squeeze S_ squeezes_S1_S_).sem
abbrev sendS (k : Fin 8) : DmaSem sig := ((cc0_scratch6.slice (Rect.unit (s := S8) ![k.val] S1.size (s8_inb k))).squeeze S_ squeezes_S1_S_).sem
abbrev recvS (k : Fin 8) : DmaSem sig := ((cc0_scratch7.slice (Rect.unit (s := S8) ![k.val] S1.size (s8_inb k))).squeeze S_ squeezes_S1_S_).sem
abbrev locS : DmaSem sig := cc0_scratch8.sem

theorem inS_val (s : Fin 2) : (inS s).val = s.val := by revert s; decide
theorem outS_val (s : Fin 2) : (outS s).val = 2 + s.val := by revert s; decide
theorem sendS_val (k : Fin 8) : (sendS k).val = 4 + k.val := by revert k; decide
theorem recvS_val (k : Fin 8) : (recvS k).val = 12 + k.val := by revert k; decide
theorem locS_val : (locS).val = 20 := by decide

end Cert.Gather

end
-- ==== Proof.Contents.lean ====
/-
  What the arrays hold: the rounded input every device sends, the result a device ends with, and that each step of the
  kernel leaves exactly these under the memref it writes.
-/
module

public import proofs.«01_k».proof.Proof.Places
public import Idealize.ShloMosaic.Lib.ValueIdxCore

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-! ## The resource algebra: the pipeline's copy, the protocol's and the local copies' counters -/

abbrev UX : Type := URounds (GSem nD τ sig) Unit × Counters
abbrev UU : Type := UR sig nD τ × UX

local notation "𝕄" => MT nD τ sig Unit (Elt F) ℕ UU ℕ

variable (m : (ℓ : Loc nD τ sig) → Buf (Elt F) ℓ)

/-! ## The contents -/

/-- The block of the input a device holds at launch. -/
def xv (c : Dev nD) : (main_arg0 : Ref sig .tc).ty.Contents (Elt F) := m ((c : Thread nD τ).loc main_arg0)
/-- The block rounded to the width it is sent at: what the peer receives. -/
def bv (c : Dev nD) : (cc0_scratch1 : Ref sig .tc).ty.Contents (Elt F) :=
  (truncf .bf16 (show FVec F S4096x1024 .f32 from xv m c) bitsLt_bf16_f32 : FVec F S4096x1024 .bf16)

/-- The row of its block a row of the result is. -/
def low (i : S8192x1024.Idx) : S4096x1024.Idx := ix2 ⟨(i 0).val % 4096, Nat.mod_lt _ (by decide)⟩ (i 1)

/-- The result: the device's own half as it is, the other the peer's block rounded and widened back. -/
def outv (c : Dev nD) : (main_v1 : Ref sig .tc).ty.Contents (Elt F) := show FVec F S8192x1024 .f32 from fun i =>
  if (i 0).val / 4096 = (c.val / 4) % 2 then (show FVec F S4096x1024 .f32 from xv m c) (low i)
  else (extf .f32 (show FVec F S4096x1024 .bf16 from bv m (peer c)) bitsLt_bf16_f32 : FVec F S4096x1024 .f32) (low i)

/-! ## What each step leaves -/

/-- An index of a block of rows of the result that starts at row `o`, coordinate by coordinate. -/
theorem out_emb {off : Fin 2 → ℕ} {n o : ℕ} (inb : ∀ a, off a + (![n, 1024] : Fin 2 → ℕ) a ≤ S8192x1024.size a)
    (ho : off = ![o, 0]) (j : (⟨2, ![n, 1024]⟩ : Shape).Idx) :
    (((Rect.unit (s := S8192x1024) off ![n, 1024] inb).emb j) 0).val = o + (j 0).val
      ∧ (((Rect.unit (s := S8192x1024) off ![n, 1024] inb).emb j) 1).val = (j 1).val := by
  subst ho
  refine ⟨?_, ?_⟩ <;> rw [Rect.emb_apply] <;> simp only [Rect.off_unit, Rect.stride_unit, Nat.one_mul]
  · rfl
  · exact Nat.zero_add _

/-- The chunk in its slot, as the body loads it, rounded, is the chunk of the rounded block. -/
theorem cast_eq (c : Dev nD) (k : Fin 8) (s : Fin 2) (f : (cc0_scratch0 : Ref sig .tc).ty.Contents (Elt F))
    (h : (fSl s).view.read (Elt F) f = (xCh k).view.read (Elt F) (xv m c)) :
    k0_pay1 (fM.view.readAt (Elt F) (slR s).toLoadRect f) = (bM.access (chR k)).read (Elt F) (bv m c) := by
  funext j
  have e := congrFun h j
  show FloatOps.truncf (F := F) .bf16 bitsLt_bf16_f32 ((fM.view.readAt (Elt F) (slR s).toLoadRect f) (Shape.reshapeEquiv _ (Shape.reshapeEquiv _ j)))
    = FloatOps.truncf (F := F) .bf16 bitsLt_bf16_f32 ((xCh k).view.read (Elt F) (xv m c) j)
  rw [← e, Shape.reshapeEquiv_self]
  rfl

/-- The chunk as received, widened and stored in its slot, reads as the widened chunk. -/
theorem ext_eq (c : Dev nD) (k : Fin 8) (s : Fin 2) (g : (cc0_scratch3 : Ref sig .tc).ty.Contents (Elt F)) (f : (cc0_scratch2 : Ref sig .tc).ty.Contents (Elt F)) :
    (gSl s).view.read (Elt F) ((gM.access (slR s)).write (Elt F) g (k0_pay11 (rM.view.readAt (Elt F) (chR k).toLoadRect f)) Finset.univ)
      = (extf .f32 (show FVec F S512x1024 .bf16 from (rCh k).view.read (Elt F) f) bitsLt_bf16_f32 : FVec F S512x1024 .f32) := by
  funext j
  show (gM.access (slR s)).read (Elt F) ((gM.access (slR s)).write (Elt F) g (k0_pay11 (rM.view.readAt (Elt F) (chR k).toLoadRect f)) Finset.univ)
    (Shape.reshapeEquiv _ j) = _
  rw [View.read_write_univ]
  show FloatOps.extf (F := F) .f32 bitsLt_bf16_f32 ((rCh k).view.read (Elt F) f (Shape.reshapeEquiv _ (Shape.reshapeEquiv _ j))) = _
  rw [Shape.reshapeEquiv_reshapeEquiv, Shape.reshapeEquiv_self]
  rfl

/-- The widened chunk of the peer's block is the result's chunk. -/
theorem outCh_eq (c : Dev nD) (k : Fin 8) :
    (extf .f32 (show FVec F S512x1024 .bf16 from (rCh k).view.read (Elt F) (bv m (peer c))) bitsLt_bf16_f32 : FVec F S512x1024 .f32)
      = (oCh c k).view.read (Elt F) (outv m c) := by
  funext j
  have hk := k.isLt
  have hj : (j 0).val < 512 := (j 0).isLt
  obtain ⟨h0, h1⟩ := out_emb (n := 512) (k0_off2_inb c k) (k0_off2_eq c k) j
  show FloatOps.extf (F := F) .f32 bitsLt_bf16_f32 (bv m (peer c) ((chR k).emb j))
    = outv m c ((Rect.unit (s := S8192x1024) (k0_off2 c (BitVec.ofNat 32 (512 * k.val))) S512x1024.size (k0_off2_inb c k)).emb j)
  set i := (Rect.unit (s := S8192x1024) (k0_off2 c (BitVec.ofNat 32 (512 * k.val))) S512x1024.size (k0_off2_inb c k)).emb j with hi
  have hy : (c.val / 4) % 2 < 2 := Nat.mod_lt _ (by decide)
  have hne : ¬ (i 0).val / 4096 = (c.val / 4) % 2 := by rw [show (i 0).val = _ from h0]; omega
  unfold outv
  show _ = if (i 0).val / 4096 = (c.val / 4) % 2 then _ else _
  rw [if_neg hne]
  show _ = FloatOps.extf (F := F) .f32 bitsLt_bf16_f32 (bv m (peer c) (low i))
  congr 2
  funext a
  apply Fin.ext
  rw [Rect.emb_apply]
  simp only [Rect.off_unit, Rect.stride_unit, Nat.one_mul]
  fin_cases a
  · show 512 * k.val + (j 0).val = (i 0).val % 4096
    rw [show (i 0).val = _ from h0]; omega
  · show 0 + (j 1).val = (i 1).val
    exact (Nat.zero_add _).trans h1.symm

/-- The device's own block is the result's own half. -/
theorem outOwn_eq (c : Dev nD) : xM.view.read (Elt F) (xv m c) = (oOwn c).view.read (Elt F) (outv m c) := by
  funext j
  have hj : (j 0).val < 4096 := (j 0).isLt
  obtain ⟨h0, h1⟩ := out_emb (n := 4096) (k0_off1_inb c) (k0_off1_eq c) j
  show xv m c j = outv m c ((Rect.unit (s := S8192x1024) (k0_off1 c) S4096x1024.size (k0_off1_inb c)).emb j)
  set i := (Rect.unit (s := S8192x1024) (k0_off1 c) S4096x1024.size (k0_off1_inb c)).emb j with hi
  have he : (i 0).val / 4096 = (c.val / 4) % 2 := by rw [show (i 0).val = _ from h0]; omega
  unfold outv
  show _ = if (i 0).val / 4096 = (c.val / 4) % 2 then xv m c (low i) else _
  rw [if_pos he]
  congr 1
  funext a
  apply Fin.ext
  fin_cases a
  · show (j 0).val = (i 0).val % 4096
    rw [show (i 0).val = _ from h0]; omega
  · show (j 1).val = (i 1).val
    exact h1.symm

omit [FloatOps F] in
/-- What is written through a view over all its indices is, under the view, any contents that read the same. -/
theorem write_settled {c : Thread nD τ} {sp : Space} {s : Shape} {e : EltTy} (v : View sig c.2.kind sp s e) (q : PosShare TreeShare)
    (fd g : Buf (Elt F) (v.loc c)) (w : s.Idx → Elt F e) (h : w = v.read (Elt F) g) :
    (v.loc c ↦[v.set]{q} v.write (Elt F) fd w Finset.univ : sProp 𝕄) = v.loc c ↦[v.set]{q} g :=
  pointsTo_congr fun i hi => by
    obtain ⟨x, -, rfl⟩ := Finset.mem_map.mp hi
    rw [View.write_emb_of_mem _ _ (Finset.mem_univ _), h, View.read_apply, cast_cast, _root_.cast_eq]

end Cert.Gather

end
-- ==== Proof.Protocol.lean ====
/-
  The protocol: which semaphores of which device another device's steps raise, what each rise hands over, what a device
  owes its peer at launch, and the levels under which it may wait.

  Every device has seventeen such cells: its barrier (raised by its peer's signal, which hands over the eight chunks of
  the peer's receiving buffer), and for each chunk one the peer's transfer raises on arrival (handing over the chunk of
  the receiving buffer holding the peer's rounded chunk) and one its own transfer raises (handing back the chunk sent).
-/
module

public import proofs.«01_k».proof.Proof.Contents

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
/-- The protocol's part of the algebra, and the local copies'. -/
def ER : Emb (URounds (GSem nD τ sig) Unit) (MT nD τ sig Unit (Elt F) ℕ UU ℕ) := Emb.inl.trans embR
abbrev EC : UEmb Counters (MT nD τ sig Unit (Elt F) ℕ UU ℕ) := countersEmb

omit [FloatOps F] in
instance ER_landsIn : (ER : Emb (URounds (GSem nD τ sig) Unit) 𝕄).LandsIn (upEmb : UEmb _ 𝕄) := by unfold ER embR; infer_instance
omit [FloatOps F] in
instance EC_landsIn : (EC : UEmb Counters 𝕄).LandsIn (upEmb : UEmb _ 𝕄) := by unfold EC; infer_instance

variable (m : (ℓ : Loc nD τ sig) → Buf (Elt F) ℓ)

/-! ## The cells -/

/-- Which cell of a device: its barrier, a chunk's sending cell, a chunk's receiving cell. -/
abbrev CI : Type := Unit ⊕ (Fin 8 ⊕ Fin 8)
abbrev csem : CI → SemLoc sig
  | .inl _ => .reg barS
  | .inr (.inl k) => .dma (sendS k)
  | .inr (.inr k) => .dma (recvS k)

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))
abbrev kcell (ck : Dev nD × CI) : GSem nD τ sig := ((ck.1 : Thread nD τ), csem ck.2)

theorem sendS_inj : Function.Injective sendS := fun a b h => by
  have := congrArg Fin.val h; rw [sendS_val, sendS_val] at this; exact Fin.ext (by omega)
theorem recvS_inj : Function.Injective recvS := fun a b h => by
  have := congrArg Fin.val h; rw [recvS_val, recvS_val] at this; exact Fin.ext (by omega)
theorem send_ne_recvS (a b : Fin 8) : sendS a ≠ recvS b := fun h => by
  have := congrArg Fin.val h; rw [sendS_val, recvS_val] at this; have := a.isLt; omega

theorem dma_inj {a b : DmaSem sig} (h : (SemLoc.dma a : SemLoc sig) = .dma b) : a = b := by cases h; rfl

theorem csem_inj : Function.Injective csem := by
  rintro (⟨⟩ | a | a) (⟨⟩ | b | b) h
  · rfl
  · cases h
  · cases h
  · cases h
  · rw [sendS_inj (dma_inj h)]
  · exact absurd (dma_inj h) (send_ne_recvS a b)
  · cases h
  · exact absurd (dma_inj h).symm (send_ne_recvS b a)
  · rw [recvS_inj (dma_inj h)]

theorem kcell_inj : Function.Injective kcell := by
  rintro ⟨c, i⟩ ⟨c', i'⟩ h
  have h1 : (c : Thread nD τ) = (c' : Thread nD τ) := congrArg Prod.fst h
  have h2 : csem i = csem i' := congrArg Prod.snd h
  rw [csem_inj h2, show c = c' from congrArg Prod.fst h1]

/-- A chunk's credit. -/
def N : ℕ := (rCh 0).view.dmaCredit
theorem N_eq (k : Fin 8) : (rCh k).view.dmaCredit = N := rfl
theorem N_send (k : Fin 8) : (bCh k).view.dmaCredit = N := rfl
theorem N_pos : 0 < N := View.dmaCredit_pos _ (by decide)

/-! ## What is held of the chunks -/

/-- Chunk `k` of device `c`'s receiving buffer, of its sending buffer. -/
def rAt (c : Dev nD) (k : Fin 8) (f : Buf (Elt F) ((rCh k).view.loc (c : Thread nD τ))) : sProp 𝕄 :=
  (rCh k).view.loc (c : Thread nD τ) ↦[(rCh k).view.set]{fullShare} f
def bAt (c : Dev nD) (k : Fin 8) (f : Buf (Elt F) ((bCh k).view.loc (c : Thread nD τ))) : sProp 𝕄 :=
  (bCh k).view.loc (c : Thread nD τ) ↦[(bCh k).view.set]{fullShare} f

omit [FloatOps F] in
instance rAt_storable (c : Dev nD) (k) (f) : BI.Storable (upEmb : UEmb _ 𝕄) (rAt (F := F) c k f) := by unfold rAt; infer_instance
omit [FloatOps F] in
instance bAt_storable (c : Dev nD) (k) (f) : BI.Storable (upEmb : UEmb _ 𝕄) (bAt (F := F) c k f) := by unfold bAt; infer_instance

/-! ## The schedule -/

def barPay (c : Dev nD) : sProp 𝕄 := bigSep Finset.univ fun k : Fin 8 => iprop(∃ f, rAt (F := F) (peer c) k f)
def recvPay (c : Dev nD) (k : Fin 8) : sProp 𝕄 := rAt c k (bv m (peer c))
def sendPay (c : Dev nD) (k : Fin 8) : sProp 𝕄 := bAt c k (bv m c)

/-- The chunk a transfer's semaphore belongs to. -/
def kOf (q : DmaSem sig) : Fin 8 := ⟨(q.val - 4) % 8, Nat.mod_lt _ (by decide)⟩
theorem kOf_send (k : Fin 8) : kOf (sendS k) = k := by revert k; decide
theorem kOf_recv (k : Fin 8) : kOf (recvS k) = k := by revert k; decide

def payOf (c : Dev nD) : SemLoc sig → sProp 𝕄
  | .reg _ => barPay (F := F) c
  | .dma q => if 12 ≤ q.val then recvPay m c (kOf q) else sendPay m c (kOf q)

instance payOf_storable (c : Dev nD) (s : SemLoc sig) : BI.Storable (upEmb : UEmb _ 𝕄) (payOf m c s) := by
  cases s with
  | reg _ => unfold payOf barPay; infer_instance
  | dma q =>
    show BI.Storable upEmb (if 12 ≤ q.val then recvPay m c (kOf q) else sendPay m c (kOf q))
    unfold recvPay sendPay
    split <;> infer_instance

/-- One round: a cell of the protocol has the one duty `()`, of one unit on a barrier cell and of a chunk's credit on the others. -/
def ringRd : Rounds.Schedule (GSem nD τ sig) Unit 𝕄 where
  duties g r := if r = 0 ∧ g.1.2 = .tc ∧ ∃ i, g.2 = csem i then {()} else ∅
  unitless _ := False
  amount g _ _ := if g.2 = .reg barS then 1 else N
  payload g _ _ := payOf m g.1.1 g.2
  amount_pos g _ _ _ := by
    by_cases h : g.2 = .reg barS
    · rw [if_pos h]; exact Nat.one_pos
    · rw [if_neg h]; exact N_pos

instance ringRd_payload_storable (g : GSem nD τ sig) (r : ℕ) (d : Unit) :
    BI.Storable (upEmb : UEmb _ 𝕄) ((ringRd (F := F) m).payload g r d) := payOf_storable m g.1.1 g.2

section Sched
variable (c : Dev nD) (k : Fin 8)

theorem duties_cell (i : CI) : (ringRd (F := F) m).duties (kcell (c, i)) 0 = {()} := by dsimp only [ringRd]; exact if_pos ⟨rfl, rfl, i, rfl⟩
theorem duties_later (g : GSem nD τ sig) : ∀ r, 1 ≤ r → (ringRd (F := F) m).duties g r = ∅ :=
  fun r hr => by dsimp only [ringRd]; exact if_neg fun h => by omega

theorem dma_ne_bar (q : DmaSem sig) : (SemLoc.dma q : SemLoc sig) ≠ .reg barS := fun h => by cases h

theorem amount_bar : (ringRd (F := F) m).amount (barCell c) 0 () = 1 := by dsimp only [ringRd]; exact if_pos rfl
theorem amount_dma (q : DmaSem sig) : (ringRd (F := F) m).amount ((c : Thread nD τ), .dma q) 0 () = N := by
  dsimp only [ringRd]; exact if_neg (dma_ne_bar q)

theorem expect_bar : (ringRd (F := F) m).expect (barCell c) 0 = 1 := by
  unfold Schedule.expect Schedule.amountOf
  rw [show (ringRd (F := F) m).duties (barCell c) 0 = {()} from duties_cell m c (.inl ()), Finset.sum_singleton, amount_bar]
theorem expect_send : (ringRd (F := F) m).expect (sendCell c k) 0 = N := by
  unfold Schedule.expect Schedule.amountOf
  rw [show (ringRd (F := F) m).duties (sendCell c k) 0 = {()} from duties_cell m c (.inr (.inl k)), Finset.sum_singleton, amount_dma]
theorem expect_recv : (ringRd (F := F) m).expect (recvCell c k) 0 = N := by
  unfold Schedule.expect Schedule.amountOf
  rw [show (ringRd (F := F) m).duties (recvCell c k) 0 = {()} from duties_cell m c (.inr (.inr k)), Finset.sum_singleton, amount_dma]

theorem payload_bar : (ringRd (F := F) m).payload (barCell c) 0 () = barPay c := rfl
theorem payload_send : (ringRd (F := F) m).payload (sendCell c k) 0 () = sendPay m c k := by
  show (if 12 ≤ (sendS k).val then recvPay m c (kOf (sendS k)) else sendPay m c (kOf (sendS k))) = _
  rw [if_neg (by rw [sendS_val]; have := k.isLt; omega), kOf_send]
theorem payload_recv : (ringRd (F := F) m).payload (recvCell c k) 0 () = recvPay m c k := by
  show (if 12 ≤ (recvS k).val then recvPay m c (kOf (recvS k)) else sendPay m c (kOf (recvS k))) = _
  rw [if_pos (by rw [recvS_val]; omega), kOf_recv]

/-- The round's whole payload, no duty taken before: the cell's one. -/
theorem rest_cell (i : CI) :
    bigSep ((ringRd (F := F) m).duties (kcell (c, i)) 0 \ ∅) (fun d => (ringRd (F := F) m).payload (kcell (c, i)) 0 d)
      = (ringRd (F := F) m).payload (kcell (c, i)) 0 () := by
  rw [Finset.sdiff_empty, duties_cell, bigSep_singleton]

end Sched

/-! ## What each device owes at launch; the levels -/

/-- The chunks from the `n`-th on, and those before it. -/
def ge (n : ℕ) : Finset (Fin 8) := Finset.univ.filter fun j => n ≤ j.val
def lt (n : ℕ) : Finset (Fin 8) := Finset.univ.filter fun j => j.val < n

theorem ge_zero : ge 0 = Finset.univ := by decide
theorem ge_eight : ge 8 = ∅ := by decide
theorem lt_zero : lt 0 = ∅ := by decide
theorem lt_eight : lt 8 = Finset.univ := by decide
theorem ge_step (k : Fin 8) : ge k.val = insert k (ge (k.val + 1)) ∧ k ∉ ge (k.val + 1) := by revert k; decide
theorem lt_step (k : Fin 8) : lt (k.val + 1) = insert k (lt k.val) ∧ k ∉ lt k.val := by revert k; decide

/-- What a device still owes when it has sent the chunks before the `n`-th: each further chunk's credit to its peer. -/
def Osend (c : Dev nD) (n : ℕ) : CellTallies nD τ sig Unit := ∑ j ∈ ge n, tallyAt (recvCell (peer c) j) () N
/-- At launch it also owes its peer's barrier one unit. -/
def O₀ (c : Dev nD) : CellTallies nD τ sig Unit := Osend c 0 + tallyAt (barCell (peer c)) () 1

theorem Osend_step (c : Dev nD) (k : Fin 8) : Osend c k.val = Osend c (k.val + 1) + tallyAt (recvCell (peer c) k) () N := by
  unfold Osend; rw [(ge_step k).1, Finset.sum_insert (ge_step k).2, add_comm]
theorem Osend_eight (c : Dev nD) : Osend c 8 = 0 := by unfold Osend; rw [ge_eight, Finset.sum_empty]

theorem Osend_pos {c : Dev nD} {n : ℕ} {g : GSem nD τ sig} {u : Unit} (h : 0 < Osend c n g u) : ∃ k, g = recvCell (peer c) k := by
  unfold Osend at h
  rw [Finset.sum_apply, Finsupp.finset_sum_apply] at h
  by_contra hn
  refine absurd h ?_
  rw [Finset.sum_eq_zero fun j _ => by rw [tallyAt_apply, if_neg fun h' => hn ⟨j, h'.1⟩]]
  exact Nat.lt_irrefl 0

theorem O₀_pos {c : Dev nD} {g : GSem nD τ sig} {u : Unit} (h : 0 < O₀ c g u) : (∃ k, g = recvCell (peer c) k) ∨ g = barCell (peer c) := by
  unfold O₀ at h
  rw [Pi.add_apply, Finsupp.add_apply, tallyAt_apply] at h
  by_cases hb : g = barCell (peer c) ∧ u = ()
  · exact .inr hb.1
  · rw [if_neg hb, Nat.add_zero] at h; exact .inl (Osend_pos h)

def L (g : GSem nD τ sig) : Finset Unit := if g.1.2 = .tc then {()} else ∅
/-- The barriers at 1, the receiving cells at 2, every other cell at 0. -/
def lv (g : GSem nD τ sig) (_ : Unit) : ℕ := if g.2 = .reg barS then 1 else if ∃ k, g.2 = .dma (recvS k) then 2 else 0

theorem L_of_ne (g : GSem nD τ sig) (h : g.1.2 ≠ .tc) : L g = ∅ := if_neg h
theorem L_tc (c : Dev nD) (sm : SemLoc sig) (u : Unit) : u ∈ L ((c : Thread nD τ), sm) := by
  rw [show L ((c : Thread nD τ), sm) = {()} from if_pos rfl]; exact Finset.mem_singleton_self _
theorem lv_bar (c : Dev nD) (u : Unit) : lv (barCell c) u = 1 := if_pos rfl
theorem lv_recv (c : Dev nD) (k : Fin 8) (u : Unit) : lv (recvCell c k) u = 2 := by
  unfold lv; rw [if_neg (dma_ne_bar _), if_pos ⟨k, rfl⟩]

/-- A device that owes only chunks may wait on any cell below the receiving ones. -/
theorem mayWait_send (c : Dev nD) (sm : SemLoc sig) (h : lv ((c : Thread nD τ), sm) () < 2) (n : ℕ) :
    (levAts L lv : sProp 𝕄) ⊢ MayWait (c : Thread nD τ) sm () (Osend c n) :=
  MayOwe.of_cut (L := L) (lev := lv) 1 (fun p hp => by rw [Finset.mem_singleton.mp hp]; exact L_tc c sm ())
    (fun g u hg => by obtain ⟨k, rfl⟩ := Osend_pos hg; exact L_tc _ _ _)
    (fun p hp => by rw [Finset.mem_singleton.mp hp]; exact Nat.le_of_lt_succ h)
    (fun g u hg => by obtain ⟨k, rfl⟩ := Osend_pos hg; rw [lv_recv]; decide)

theorem lv_local (c : Dev nD) (q : DmaSem sig) (h : q.val < 12 ∨ q.val = 20) : lv ((c : Thread nD τ), .dma q) () < 2 := by
  unfold lv
  rw [if_neg (dma_ne_bar q), if_neg (fun ⟨k, hk⟩ => by
    have := congrArg Fin.val (dma_inj hk); rw [recvS_val] at this; have := k.isLt; omega)]
  decide

/-- At launch, too, it may wait on a cell of level 0. -/
theorem mayWait_start (c : Dev nD) (sm : SemLoc sig) (h : lv ((c : Thread nD τ), sm) () = 0) :
    (levAts L lv : sProp 𝕄) ⊢ MayWait (c : Thread nD τ) sm () (O₀ c) :=
  MayOwe.of_cut (L := L) (lev := lv) 0 (fun p hp => by rw [Finset.mem_singleton.mp hp]; exact L_tc c sm ())
    (fun g u hg => by rcases O₀_pos hg with ⟨k, rfl⟩ | rfl <;> exact L_tc _ _ _)
    (fun p hp => by rw [Finset.mem_singleton.mp hp]; exact Nat.le_of_eq h)
    (fun g u hg => by
      rcases O₀_pos hg with ⟨k, rfl⟩ | rfl
      · rw [lv_recv]; decide
      · rw [lv_bar]; decide)

end Cert.Gather

end
-- ==== Proof.Program.lean ====
/-
  The kernel's body as a sequence of steps, each written once for every chunk.
-/
module

public import proofs.«01_k».proof.Proof.Places

@[expose] public section

noncomputable section

namespace Cert.Gather

open Cert.KernelIdeal Cert.KernelIdeal.Gen
open Idealize.ShloMosaic
open Idealize.ShloMosaic.TcCoe
open Idealize.SL Idealize.SL.Sem

variable {F : FTy → Type} [FloatOps F]

abbrev P (F : FTy → Type) [FloatOps F] := Prog (TpuEff nD τ sig (Elt F) Λ₀ .tc) PUnit

/-- The slot of chunk `k`. -/
abbrev sl (k : Fin 8) : Fin 2 := ⟨k.val % 2, Nat.mod_lt _ (by decide)⟩

theorem bEx (k : Fin 8) : (bCh k).view.WordExact := by
  fin_cases k
  exacts [(Memref.isWhole_whole _).wordExact_slice rfl _ wordsbf16_S4096x1024_S512x1024_0_0,
    (Memref.isWhole_whole _).wordExact_slice rfl _ wordsbf16_S4096x1024_S512x1024_512_0,
    (Memref.isWhole_whole _).wordExact_slice rfl _ wordsbf16_S4096x1024_S512x1024_1024_0,
    (Memref.isWhole_whole _).wordExact_slice rfl _ wordsbf16_S4096x1024_S512x1024_1536_0,
    (Memref.isWhole_whole _).wordExact_slice rfl _ wordsbf16_S4096x1024_S512x1024_2048_0,
    (Memref.isWhole_whole _).wordExact_slice rfl _ wordsbf16_S4096x1024_S512x1024_2560_0,
    (Memref.isWhole_whole _).wordExact_slice rfl _ wordsbf16_S4096x1024_S512x1024_3072_0,
    (Memref.isWhole_whole _).wordExact_slice rfl _ wordsbf16_S4096x1024_S512x1024_3584_0]
theorem rEx (k : Fin 8) : (rCh k).view.WordExact := by
  fin_cases k
  exacts [(Memref.isWhole_whole _).wordExact_slice rfl _ wordsbf16_S4096x1024_S512x1024_0_0,
    (Memref.isWhole_whole _).wordExact_slice rfl _ wordsbf16_S4096x1024_S512x1024_512_0,
    (Memref.isWhole_whole _).wordExact_slice rfl _ wordsbf16_S4096x1024_S512x1024_1024_0,
    (Memref.isWhole_whole _).wordExact_slice rfl _ wordsbf16_S4096x1024_S512x1024_1536_0,
    (Memref.isWhole_whole _).wordExact_slice rfl _ wordsbf16_S4096x1024_S512x1024_2048_0,
    (Memref.isWhole_whole _).wordExact_slice rfl _ wordsbf16_S4096x1024_S512x1024_2560_0,
    (Memref.isWhole_whole _).wordExact_slice rfl _ wordsbf16_S4096x1024_S512x1024_3072_0,
    (Memref.isWhole_whole _).wordExact_slice rfl _ wordsbf16_S4096x1024_S512x1024_3584_0]
theorem bStores (k : Fin 8) : (bM.access (chR k)).Stores Finset.univ := by
  fin_cases k
  exacts [View.stores_vmem h_S512x1024 ((Memref.isWhole_whole _).storeExact_slice rfl _ packedbf16_S4096x1024_S512x1024_0_0) (fun _ => rfl),
    View.stores_vmem h_S512x1024 ((Memref.isWhole_whole _).storeExact_slice rfl _ packedbf16_S4096x1024_S512x1024_512_0) (fun _ => rfl),
    View.stores_vmem h_S512x1024 ((Memref.isWhole_whole _).storeExact_slice rfl _ packedbf16_S4096x1024_S512x1024_1024_0) (fun _ => rfl),
    View.stores_vmem h_S512x1024 ((Memref.isWhole_whole _).storeExact_slice rfl _ packedbf16_S4096x1024_S512x1024_1536_0) (fun _ => rfl),
    View.stores_vmem h_S512x1024 ((Memref.isWhole_whole _).storeExact_slice rfl _ packedbf16_S4096x1024_S512x1024_2048_0) (fun _ => rfl),
    View.stores_vmem h_S512x1024 ((Memref.isWhole_whole _).storeExact_slice rfl _ packedbf16_S4096x1024_S512x1024_2560_0) (fun _ => rfl),
    View.stores_vmem h_S512x1024 ((Memref.isWhole_whole _).storeExact_slice rfl _ packedbf16_S4096x1024_S512x1024_3072_0) (fun _ => rfl),
    View.stores_vmem h_S512x1024 ((Memref.isWhole_whole _).storeExact_slice rfl _ packedbf16_S4096x1024_S512x1024_3584_0) (fun _ => rfl)]

/-! ## The steps -/

/-- Signal the peer's barrier. -/
def signal (d : Dev nD) : P F := semSignalWord (⟨k0_dev1 d, k0_dev1_lt d⟩ : Dev nD) barS 1#32
/-- Wait for one on the own barrier. -/
def barWait : P F := semWaitWord barS 1#32
/-- The copy of the own half of the result, and its wait. -/
def ownStart (d : Dev nD) : P F :=
  Prog.lift (.enqueueDma xM (.here (oOwn d)) (.dma locS) (Memref.isWhole_whole _).wordExact (View.wordExact_bits rfl) ⟨Or.inl rfl, trivial⟩)
def ownWait (d : Dev nD) : P F :=
  Prog.lift (.waitDma2 locS xM (oOwn d) (Memref.isWhole_whole _).wordExact (View.wordExact_bits rfl))
/-- The copy of chunk `k` of the input into its slot, and its wait. -/
def inStart (k : Fin 8) : P F :=
  Prog.lift (.enqueueDma (xCh k) (.here (fSl (sl k))) (.dma (inS (sl k))) (View.wordExact_bits rfl) ((View.wordExact_bits rfl).reshape _ _) ⟨Or.inl rfl, trivial⟩)
def inWait (k : Fin 8) : P F :=
  Prog.lift (.waitDma2 (inS (sl k)) (xCh k) (fSl (sl k)) (View.wordExact_bits rfl) ((View.wordExact_bits rfl).reshape _ _))
/-- Chunk `k` rounded into the buffer the transfers send from. -/
def castStore (k : Fin 8) : P F := do
  let v : Vec F S1x512x1024 .f32 ← Prog.lift (.load fM (slR (sl k)).toLoadRect (View.loadsAt_vmem h_S1x512x1024))
  let _ : Vec F S512x1024 .bf16 ← Prog.lift (.load bM (chR k).toLoadRect (View.loadsAt_vmem h_S512x1024))
  Prog.lift (.store bM (chR k) (k0_pay1 v) Finset.univ (bStores k) (.inl rfl))
/-- The transfer of chunk `k` to the peer, the wait for the peer's, the wait for the own one's source. -/
def rdma (d : Dev nD) (k : Fin 8) : P F :=
  Prog.lift (.enqueueDma (bCh k) (.remote (Dev.tc (rdev d k)) (rCh k) (.dma (sendS k))) (.dma (recvS k)) (bEx k) (rEx k) ⟨⟨rfl, Or.inl rfl⟩, trivial⟩)
def recvWait (k : Fin 8) : P F := Prog.lift (.waitDma2 (recvS k) (bCh k) (rCh k) (bEx k) (rEx k))
def sendWait (k : Fin 8) : P F := Prog.lift (.waitDma2 (sendS k) (rCh k) (bCh k) (rEx k) (bEx k))
/-- Chunk `k` as received widened into its slot. -/
def extStore (k : Fin 8) : P F := do
  let v : Vec F S512x1024 .bf16 ← Prog.lift (.load rM (chR k).toLoadRect (View.loadsAt_vmem h_S512x1024))
  let _ : Vec F S1x512x1024 .f32 ← Prog.lift (.load gM (slR (sl k)).toLoadRect (View.loadsAt_vmem h_S1x512x1024))
  Prog.lift (.store gM (slR (sl k)) (k0_pay11 v) Finset.univ (View.stores_vmem_bits_univ h_S1x512x1024 rfl) (.inl rfl))
/-- The copy of chunk `k` out of its slot into the result, and its wait. -/
def outStart (d : Dev nD) (k : Fin 8) : P F :=
  Prog.lift (.enqueueDma (gSl (sl k)) (.here (oCh d k)) (.dma (outS (sl k))) ((View.wordExact_bits rfl).reshape _ _) (View.wordExact_bits rfl) ⟨Or.inl rfl, trivial⟩)
def outWait (d : Dev nD) (k : Fin 8) : P F :=
  Prog.lift (.waitDma2 (outS (sl k)) (gSl (sl k)) (oCh d k) ((View.wordExact_bits rfl).reshape _ _) (View.wordExact_bits rfl))

/-! ## The body -/

/-- One chunk read, rounded and sent while the next is read. -/
def push (d : Dev nD) (k k' : Fin 8) : P F := do
  inStart k'
  inWait k
  castStore k
  rdma d k
/-- One chunk received, widened and written out, its slot's last copy waited for first. -/
def pull (d : Dev nD) (k k' : Fin 8) : P F := do
  recvWait k
  outWait d k'
  extStore k
  outStart d k
/-- One chunk received, widened and written out of a slot not used before. -/
def pull0 (d : Dev nD) (k : Fin 8) : P F := do
  recvWait k
  extStore k
  outStart d k

def opening (d : Dev nD) : P F := do
  signal d
  ownStart d
  inStart 0
  inWait 0
  castStore 0
  inStart 1
  barWait
  rdma d 0

def pushing (d : Dev nD) : P F := do
  push d 1 2; push d 2 3; push d 3 4; push d 4 5; push d 5 6; push d 6 7
  inWait 7
  castStore 7
  rdma d 7

def pulling (d : Dev nD) : P F := do
  pull0 d 0; pull0 d 1; pull d 2 0; pull d 3 1; pull d 4 2; pull d 5 3; pull d 6 4; pull d 7 5

def closing (d : Dev nD) : P F := do
  sendWait 0; sendWait 1; sendWait 2; sendWait 3; sendWait 4; sendWait 5; sendWait 6; sendWait 7
  outWait d 6
  outWait d 7
  ownWait d

def body : P F := do
  let d : Dev nD ← Prog.lift .deviceId
  opening d
  pushing d
  pulling d
  closing d

end Cert.Gather

end
-- ==== Proof.Steps.lean ====
/-
  Each step of the body, once for every chunk: what it takes and what it gives.
-/
module

public import proofs.«01_k».proof.Proof.Protocol
public import proofs.«01_k».proof.Proof.Program

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)

abbrev 𝒱₀ : Variants := Variants.none

/-- The weakest precondition of a piece of device `c`'s body. -/
abbrev WP (c : Dev nD) (p : P F) (Q : PUnit → sProp 𝕄) : sProp 𝕄 :=
  wp frame (wpE (defs₀ (F := F)) 𝒱₀ (c : Thread nD τ) none) Set.univ p Q

/-! ## What is known of all cells -/

/-- Every cell of the protocol is set up, at round 0. -/
def recs : sProp 𝕄 :=
  iprop((bigSep Finset.univ fun ck : Dev nD × CI => cellInv ER (ringRd m) (K ck) (kcell ck))
    ∗ bigSep Finset.univ fun ck : Dev nD × CI => reached ER (kcell ck) 0)

instance recs_persistent : BI.Persistent (recs m K) := by unfold recs; infer_instance

theorem inv_at (ck : Dev nD × CI) : recs m K ⊢ cellInv ER (ringRd m) (K ck) (kcell ck) := by
  unfold recs; exact sep_elim_left.trans (bigSep_elim (Finset.mem_univ ck))
theorem reached_at (ck : Dev nD × CI) : recs m K ⊢ reached ER (kcell ck) 0 := by
  unfold recs; exact sep_elim_right.trans (bigSep_elim (Finset.mem_univ ck))

/-! ## What is held -/

theorem fSl_set (s : Fin 2) : (fSl s).view.set = (fM.access (slR s)).set :=
  View.set_reshape (fM.access (slR s)) _
theorem gSl_set (s : Fin 2) : (gSl s).view.set = (gM.access (slR s)).set :=
  View.set_reshape (gM.access (slR s)) _

/-- Device `c` owes the chunks from the `n`-th on. -/
def ow (c : Dev nD) (n : ℕ) : sProp 𝕄 := iprop(∃ W, owes (c : Thread nD τ) (Osend c n) W)

/-- Half of the input, whole; half of its chunk `k`. -/
def xL (c : Dev nD) : sProp 𝕄 := xM.view.loc (c : Thread nD τ) ↦[xM.view.set]{fullShare.left} xv m c
def xAt (c : Dev nD) (k : Fin 8) : sProp 𝕄 := (xCh k).view.loc (c : Thread nD τ) ↦[(xCh k).view.set]{fullShare.right} xv m c
/-- The result's own half, its other half's chunk `k`. -/
def oOwnAt (c : Dev nD) (f : Buf (Elt F) ((oOwn c).view.loc (c : Thread nD τ))) : sProp 𝕄 :=
  (oOwn c).view.loc (c : Thread nD τ) ↦[(oOwn c).view.set]{fullShare} f
def oAt (c : Dev nD) (k : Fin 8) (f : Buf (Elt F) ((oCh c k).view.loc (c : Thread nD τ))) : sProp 𝕄 :=
  (oCh c k).view.loc (c : Thread nD τ) ↦[(oCh c k).view.set]{fullShare} f
/-- A slot of the reading buffer, of the writing buffer. -/
def fAt (c : Dev nD) (s : Fin 2) (f : Buf (Elt F) ((fSl s).view.loc (c : Thread nD τ))) : sProp 𝕄 :=
  (fSl s).view.loc (c : Thread nD τ) ↦[(fSl s).view.set]{fullShare} f
def gAt (c : Dev nD) (s : Fin 2) (f : Buf (Elt F) ((gSl s).view.loc (c : Thread nD τ))) : sProp 𝕄 :=
  (gSl s).view.loc (c : Thread nD τ) ↦[(gSl s).view.set]{fullShare} f
/-- A slot free for the next chunk. -/
def fFree (c : Dev nD) (s : Fin 2) : sProp 𝕄 := iprop(semVal ((c : Thread nD τ), .dma (inS s)) 0 ∗ ∃ f, fAt (F := F) c s f)
def gFree (c : Dev nD) (s : Fin 2) : sProp 𝕄 := iprop(semVal ((c : Thread nD τ), .dma (outS s)) 0 ∗ ∃ f, gAt (F := F) c s f)
/-- A slot with chunk `k` in it: of the input; of what the result is to hold. -/
def fHold (c : Dev nD) (k : Fin 8) : sProp 𝕄 :=
  iprop(∃ f, ⌜(fSl (sl k)).view.read (Elt F) f = (xCh k).view.read (Elt F) (xv m c)⌝ ∗ fAt c (sl k) f)
def gHold (c : Dev nD) (k : Fin 8) : sProp 𝕄 :=
  iprop(∃ f, ⌜(gSl (sl k)).view.read (Elt F) f = (oCh c k).view.read (Elt F) (outv m c)⌝ ∗ gAt c (sl k) f)
/-- The copies in flight. -/
def ownFl (c : Dev nD) : sProp 𝕄 :=
  Flight EC (c : Thread nD τ) (.dma locS) () (oOwn c).view.dmaCredit iprop(oOwnAt c (outv m c) ∗ xL m c)
def inFl (c : Dev nD) (k : Fin 8) : sProp 𝕄 :=
  Flight EC (c : Thread nD τ) (.dma (inS (sl k))) () (fSl (sl k)).view.dmaCredit iprop(fHold m c k ∗ xAt m c k)
def outFl (c : Dev nD) (k : Fin 8) : sProp 𝕄 :=
  Flight EC (c : Thread nD τ) (.dma (outS (sl k))) () (oCh c k).view.dmaCredit iprop(oAt c k (outv m c) ∗ ∃ f, gAt (F := F) c (sl k) f)

variable {m K}
variable (c : Dev nD) (k : Fin 8) {Q : PUnit → sProp (MT nD τ sig Unit (Elt F) ℕ UU ℕ)}

/-! ## The protocol's steps -/

theorem wp_signal' (W : Waits sig Unit) :
    iprop(recs m K ∗ owes (c : Thread nD τ) (O₀ c) W ∗ dutyTok ER (barCell (peer c)) 0 () ∗ barPay (F := F) (peer c))
      ⊢ iprop((ow c 0 -∗ Q ⟨⟩) -∗ WP c (signal c) Q) := by
  unfold signal
  simp only [semSignalWord, Prog.lift, sig_dev c]
  iintro ⟨#HR, HO, Ht, Hp⟩ Hk
  iapply (Rounds.wp_signal 𝒱₀ ER (ringRd m) (c : Thread nD τ) none (dst := (peer c : Thread nD τ)) (κ := K (peer c, .inl ()))
      (d := ()) (by rw [duties_cell m (peer c) (.inl ())]; exact Finset.mem_singleton_self _) ((amount_bar m (peer c)).trans (by decide)) () (Osend c 0) rfl)
    $$ [HO Ht Hp]
  · isplitr; · iapply (inv_at m K (peer c, .inl ())); iexact HR
    isplitl [HO]; · iexact HO
    isplitl [Ht]; · iexact Ht
    isplitl [Hp]; · rw [payload_bar]; iexact Hp
    iapply (reached_at m K (peer c, .inl ())); iexact HR
  iintro HO
  rw [wp_ret]; imodintro
  iapply Hk
  unfold ow
  iexists W; iexact HO

theorem wp_barWait :
    iprop(recs m K ∗ levAts L lv ∗ cred (tallyAt (barCell c) () 1) ∗ ow c 0 ∗ atPos ER (barCell c) 0 ∅ 0)
      ⊢ iprop(((ow c 0 ∗ atPos ER (barCell c) 1 ∅ 0 ∗ barPay (F := F) c) -∗ Q ⟨⟩) -∗ WP c barWait Q) := by
  unfold barWait ow
  simp only [semWaitWord, Prog.lift]
  iintro ⟨#HR, #Hlev, Hc, ⟨%W, HO⟩, Hat⟩ Hk
  iapply (Rounds.wp_wait_rest_token 𝒱₀ ER (ringRd m) (c : Thread nD τ) none (κ := K (c, .inl ()))
      (wpE_semWait_eq 𝒱₀ (c : Thread nD τ) none Set.univ) (Set.mem_univ _) () (O := Osend c 0) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (mayWait_send c (.reg barS) (by rw [lv_bar]; decide) 0); iexact Hlev
    iexact Hat
  iintro ⟨HO, Hat, -, Hpay⟩
  ihave Hp := (Entails.of_eq ((rest_cell m c (.inl ())).trans (payload_bar m c))) $$ Hpay
  rw [wp_ret]; imodintro
  iapply Hk
  isplitl [HO]; · iexists _; iexact HO
  isplitl [Hat]; · iexact Hat
  iexact Hp

/-- The transfer of chunk `k`, the device it is addressed to being the peer. -/
theorem wp_send_peer (n : Dev nD) (hn : n = peer c) {hsc : (rCh k).view.ref.isScScratch = false}
    {hsrc : (bCh k).view.WordExact} {hdst : (rCh k).view.WordExact}
    {hsem : DmaTarget.Typed .vmem (.dma (recvS k)) (.remote (Dev.tc n : Thread nD τ) (rCh k) (.dma (sendS k)) hsc)}
    {κ : PUnit → P F}
    (fn : Buf (Elt F) ((rCh k).view.loc (peer c : Thread nD τ))) (W : Waits sig Unit) :
    iprop(cellInv ER (ringRd m) (K (c, .inr (.inl k))) (sendCell c k) ∗ cellInv ER (ringRd m) (K (peer c, .inr (.inr k))) (recvCell (peer c) k)
        ∗ bAt c k (bv m c) ∗ rAt (peer c) k fn
        ∗ owes (c : Thread nD τ) (Osend c k.val) W
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) (Osend c (k.val + 1)) W) -∗ WP c (κ ⟨⟩) Q)
          -∗ WP c (.op (.enqueueDma (bCh k) (.remote (Dev.tc n : Thread nD τ) (rCh k) (.dma (sendS k)) hsc) (.dma (recvS k)) hsrc hdst hsem) κ) Q) := by
  subst hn
  unfold bAt rAt
  exact Rounds.wp_send_pointsTo 𝒱₀ ER (ringRd m) (c : Thread nD τ) none (κ₁ := K (c, .inr (.inl k))) (κ₂ := K (peer c, .inr (.inr k)))
    (r₁ := 0) (r₂ := 0) (d₁ := ()) (d₂ := ()) (fd := fn)
    (by rw [duties_cell m c (.inr (.inl k))]; exact Finset.mem_singleton_self _)
    (by rw [duties_cell m (peer c) (.inr (.inr k))]; exact Finset.mem_singleton_self _)
    () () N rfl (amount_dma m c (sendS k)) (amount_dma m (peer c) (recvS k)) (Osend c (k.val + 1)) (Osend_step c k) (W := W)
    (by rw [payload_send]; exact BI.Entails.refl _)
    (by rw [payload_recv]; unfold recvPay rAt; rw [peer_peer]
        exact Entails.of_eq (write_settled (c := (peer c : Thread nD τ)) (rCh k).view fullShare fn (bv m c) _ rfl))

theorem wp_rdma :
    iprop(recs m K ∗ bAt c k (bv m c) ∗ (∃ f, rAt (peer c) k f) ∗ ow c k.val ∗ dutyTok ER (sendCell c k) 0 () ∗ dutyTok ER (recvCell (peer c) k) 0 ())
      ⊢ iprop(((cred (tallyAt (sendCell c k) () N) ∗ ow c (k.val + 1)) -∗ Q ⟨⟩) -∗ WP c (rdma c k) Q) := by
  unfold rdma ow
  simp only [Prog.lift]
  iintro ⟨#HR, Hb, ⟨%fn, Hr⟩, ⟨%W, HO⟩, Hs, Ht⟩ Hk
  iapply (wp_send_peer (m := m) (K := K) c k _ (rdev_eq c k) fn W) $$ [Hb Hr HO Hs Ht]
  · isplitr; · iapply (inv_at m K (c, .inr (.inl k))); iexact HR
    isplitr; · iapply (inv_at m K (peer c, .inr (.inr k))); iexact HR
    isplitl [Hb]; · iexact Hb
    isplitl [Hr]; · iexact Hr
    isplitl [HO]; · iexact HO
    isplitl [Hs]; · iexact Hs
    isplitr; · iapply (reached_at m K (c, .inr (.inl k))); iexact HR
    isplitl [Ht]; · iexact Ht
    iapply (reached_at m K (peer c, .inr (.inr k))); iexact HR
  iintro ⟨Hc, HO⟩
  unfold WP
  rw [wp_ret]; imodintro
  iapply Hk
  isplitl [Hc]; · iexact Hc
  iexists W; iexact HO

theorem wp_recvWait :
    iprop(recs m K ∗ cred (tallyAt (recvCell c k) () N) ∗ ow c 8 ∗ atPos ER (recvCell c k) 0 ∅ 0)
      ⊢ iprop(((ow c 8 ∗ atPos ER (recvCell c k) 1 ∅ 0 ∗ rAt c k (bv m (peer c))) -∗ Q ⟨⟩) -∗ WP c (recvWait k) Q) := by
  unfold recvWait ow
  simp only [Prog.lift]
  rw [Osend_eight]
  iintro ⟨#HR, Hc, ⟨%W, HO⟩, Hat⟩ Hk
  iapply (Rounds.wp_wait_rest_token 𝒱₀ ER (ringRd m) (c : Thread nD τ) none (κ := K (c, .inr (.inr k)))
      (wpE_waitDma2_eq 𝒱₀ (c : Thread nD τ) none Set.univ) (Set.mem_univ _) () (O := 0) (W := W) (R := 0) (m := 0) (T := ∅)
      (by rw [Nat.zero_add, expect_recv]; rfl)) $$ [Hc HO Hat]
  · isplitr; · iapply (inv_at m K (c, .inr (.inr k))); iexact HR
    isplitl [Hc]; · iexact Hc
    isplitl [HO]; · iexact HO
    isplitr; · rw [MayWait_zero]; iempintro
    iexact Hat
  iintro ⟨HO, Hat, -, Hpay⟩
  ihave Hp := (Entails.of_eq ((rest_cell m c (.inr (.inr k))).trans (payload_recv m c k))) $$ Hpay
  rw [wp_ret]; imodintro
  iapply Hk
  isplitl [HO]; · iexists _; iexact HO
  isplitl [Hat]; · iexact Hat
  unfold recvPay; iexact Hp

theorem wp_sendWait :
    iprop(recs m K ∗ cred (tallyAt (sendCell c k) () N) ∗ ow c 8 ∗ atPos ER (sendCell c k) 0 ∅ 0)
      ⊢ iprop(((ow c 8 ∗ atPos ER (sendCell c k) 1 ∅ 0 ∗ bAt c k (bv m c)) -∗ Q ⟨⟩) -∗ WP c (sendWait k) Q) := by
  unfold sendWait ow
  simp only [Prog.lift]
  rw [Osend_eight]
  iintro ⟨#HR, Hc, ⟨%W, HO⟩, Hat⟩ Hk
  iapply (Rounds.wp_wait_rest_token 𝒱₀ ER (ringRd m) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, expect_send]; rfl)) $$ [Hc HO Hat]
  · isplitr; · iapply (inv_at m K (c, .inr (.inl k))); iexact HR
    isplitl [Hc]; · iexact Hc
    isplitl [HO]; · iexact HO
    isplitr; · rw [MayWait_zero]; iempintro
    iexact Hat
  iintro ⟨HO, Hat, -, Hpay⟩
  ihave Hp := (Entails.of_eq ((rest_cell m c (.inr (.inl k))).trans (payload_send m c k))) $$ Hpay
  rw [wp_ret]; imodintro
  iapply Hk
  isplitl [HO]; · iexists _; iexact HO
  isplitl [Hat]; · iexact Hat
  unfold sendPay; iexact Hp

/-! ## The local copies -/

theorem wp_ownStart :
    iprop(xL m c ∗ (∃ f, oOwnAt c f) ∗ semVal ((c : Thread nD τ), .dma locS) 0)
      ⊢ iprop((ownFl m c -∗ Q ⟨⟩) -∗ WP c (ownStart c) Q) := by
  unfold ownStart xL oOwnAt
  simp only [Prog.lift]
  iintro ⟨Hx, ⟨%fd, Ho⟩, Hv⟩ Hk
  iapply (Transfers.wp_dmaLocal EC 𝒱₀ (c : Thread nD τ) none (src := xM) (dst := oOwn c) (via := .same) () (oOwn c).view.dmaCredit rfl (View.dmaCredit_pos _ (by decide))
    (Finset.Subset.refl _)) $$ [Hx Ho Hv]
  · isplitl [Hx]; · iexact Hx
    isplitl [Ho]; · iexact Ho
    iexact Hv
  iintro Hf
  rw [wp_ret]; imodintro
  iapply Hk
  unfold ownFl oOwnAt xL
  iapply (Transfers.Flight_mono EC (c : Thread nD τ) (sep_mono_left (Entails.of_eq
    (write_settled (c := (c : Thread nD τ)) (oOwn c).view fullShare fd (outv m c) _ (outOwn_eq m c)))))
  iexact Hf

/-- The wait of a local copy while owing chunks. -/
theorem wp_localWait {s' s : Shape} {e' e : EltTy} {sp' sp : Space} (q : DmaSem sig) (hq : q.val < 12 ∨ q.val = 20) (n : ℕ)
    {src : Memref sig .tc sp' s' e'} {dst : Memref sig .tc sp s e} {hsrc : src.view.WordExact} {hdst : dst.view.WordExact} {cr : ℕ}
    (hcr : dst.view.dmaCredit = cr) {D : sProp 𝕄} :
    iprop(levAts L lv ∗ Flight EC (c : Thread nD τ) (.dma q) () cr D ∗ ow c n)
      ⊢ iprop(((D ∗ semVal ((c : Thread nD τ), .dma q) 0 ∗ ow c n) -∗ Q ⟨⟩)
        -∗ WP c (Prog.lift (.waitDma2 q src dst hsrc hdst)) Q) := by
  unfold ow
  simp only [Prog.lift]
  iintro ⟨#Hlev, Hf, ⟨%W, HO⟩⟩ Hk
  iapply (Transfers.wp_waitLocalO EC 𝒱₀ (c : Thread nD τ) none () hcr (O := Osend c n) (W := W)) $$ [Hf HO]
  · isplitl [Hf]; · iexact Hf
    isplitl [HO]; · iexact HO
    iapply (mayWait_send c (.dma q) (lv_local c q hq) n); iexact Hlev
  iintro ⟨HD, Hv, HO⟩
  rw [wp_ret]; imodintro
  iapply Hk
  isplitl [HD]; · iexact HD
  isplitl [Hv]; · iexact Hv
  iexists _; iexact HO

theorem wp_ownWait :
    iprop(levAts L lv ∗ ownFl m c ∗ ow c 8)
      ⊢ iprop((((oOwnAt c (outv m c) ∗ xL m c) ∗ semVal ((c : Thread nD τ), .dma locS) 0 ∗ ow c 8) -∗ Q ⟨⟩) -∗ WP c (ownWait c) Q) := by
  unfold ownFl ownWait
  exact wp_localWait c locS (.inr locS_val) 8 rfl

theorem wp_inStart :
    iprop(xAt m c k ∗ fFree c (sl k)) ⊢ iprop((inFl m c k -∗ Q ⟨⟩) -∗ WP c (inStart k) Q) := by
  unfold inStart xAt fFree fAt
  simp only [Prog.lift]
  iintro ⟨Hx, Hv, ⟨%fd, Hf⟩⟩ Hk
  iapply (Transfers.wp_dmaLocal EC 𝒱₀ (c : Thread nD τ) none (src := xCh k) (dst := fSl (sl k)) (via := .same) () (fSl (sl k)).view.dmaCredit rfl
    (View.dmaCredit_pos _ (by decide)) (Finset.Subset.refl _)) $$ [Hx Hf Hv]
  · isplitl [Hx]; · iexact Hx
    isplitl [Hf]; · iexact Hf
    iexact Hv
  iintro Hf
  rw [wp_ret]; imodintro
  iapply Hk
  unfold inFl
  have hh : ((fSl (sl k)).view.loc (c : Thread nD τ) ↦[(fSl (sl k)).view.set]{fullShare}
      (fSl (sl k)).view.write (Elt F) fd ((xCh k).view.read (Elt F) (xv m c)) Finset.univ : sProp 𝕄) ⊢ fHold m c k := by
    unfold fHold fAt
    iintro H
    iexists ((fSl (sl k)).view.write (Elt F) fd ((xCh k).view.read (Elt F) (xv m c)) Finset.univ)
    isplitr
    · ipureintro; exact View.read_write_univ _ _
    · iexact H
  iapply (Transfers.Flight_mono EC (c : Thread nD τ) (sep_mono_left hh))
  iexact Hf

theorem wp_inWait (n : ℕ) :
    iprop(levAts L lv ∗ inFl m c k ∗ ow c n)
      ⊢ iprop((((fHold m c k ∗ xAt m c k) ∗ semVal ((c : Thread nD τ), .dma (inS (sl k))) 0 ∗ ow c n) -∗ Q ⟨⟩) -∗ WP c (inWait k) Q) := by
  unfold inFl inWait
  exact wp_localWait c (inS (sl k)) (.inl (by rw [inS_val]; have := (sl k).isLt; omega)) n rfl

theorem wp_outStart :
    iprop(gHold m c k ∗ semVal ((c : Thread nD τ), .dma (outS (sl k))) 0 ∗ (∃ f, oAt c k f))
      ⊢ iprop((outFl m c k -∗ Q ⟨⟩) -∗ WP c (outStart c k) Q) := by
  unfold outStart gHold gAt oAt
  simp only [Prog.lift]
  iintro ⟨⟨%f, %hf, Hg⟩, Hv, ⟨%fd, Ho⟩⟩ Hk
  iapply (Transfers.wp_dmaLocal EC 𝒱₀ (c : Thread nD τ) none (src := gSl (sl k)) (dst := oCh c k) (via := .same) () (oCh c k).view.dmaCredit rfl
    (View.dmaCredit_pos _ (by decide)) (Finset.Subset.refl _)) $$ [Hg Ho Hv]
  · isplitl [Hg]; · iexact Hg
    isplitl [Ho]; · iexact Ho
    iexact Hv
  iintro Hf
  rw [wp_ret]; imodintro
  iapply Hk
  have hh : ((gSl (sl k)).view.loc (c : Thread nD τ) ↦[(gSl (sl k)).view.set]{fullShare} f : sProp 𝕄) ⊢ iprop(∃ f, gAt (F := F) c (sl k) f) := by
    unfold gAt
    iintro H
    iexists f; iexact H
  unfold outFl oAt
  iapply (Transfers.Flight_mono EC (c : Thread nD τ) (Idealize.SL.BI.sep_mono (Entails.of_eq
    (write_settled (c := (c : Thread nD τ)) (oCh c k).view fullShare fd (outv m c) _ hf)) hh))
  iexact Hf

theorem wp_outWait (n : ℕ) :
    iprop(levAts L lv ∗ outFl m c k ∗ ow c n)
      ⊢ iprop((((oAt c k (outv m c) ∗ ∃ f, gAt (F := F) c (sl k) f) ∗ semVal ((c : Thread nD τ), .dma (outS (sl k))) 0 ∗ ow c n) -∗ Q ⟨⟩) -∗ WP c (outWait c k) Q) := by
  unfold outFl outWait
  exact wp_localWait c (outS (sl k)) (.inl (by rw [outS_val]; have := (sl k).isLt; omega)) n rfl

/-! ## The chunk's arithmetic -/

theorem wp_castStore :
    iprop(fHold m c k ∗ (∃ b, bAt c k b))
      ⊢ iprop((((∃ f, fAt (F := F) c (sl k) f) ∗ bAt c k (bv m c)) -∗ Q ⟨⟩) -∗ WP c (castStore k) Q) := by
  unfold castStore fHold fAt bAt
  simp only [Prog.lift, Prog.bind_op, Prog.bind_ret]
  iintro ⟨⟨%f, %hf, Hf⟩, ⟨%b, Hb⟩⟩ Hk
  iapply (wp_load_rect 𝒱₀ (c : Thread nD τ) none Set.univ (m := fM) (r := slR (sl k)) (S := (fSl (sl k)).view.set) (fSl_set (sl k)).ge) $$ Hf
  iintro Hf
  iapply (wp_load_rect 𝒱₀ (c : Thread nD τ) none Set.univ (m := bM) (r := chR k) (S := (bCh k).view.set) (Finset.Subset.refl _)) $$ Hb
  iintro Hb
  iapply (wp_store 𝒱₀ (c : Thread nD τ) none Set.univ (m := bM) (r := chR k) (Mk := Finset.univ) (S := (bCh k).view.set) (Finset.Subset.refl _)) $$ Hb
  iintro Hb
  have hw : k0_pay1 ((fM.access (slR (sl k))).read (Elt F) f) = (bM.access (chR k)).read (Elt F) (bv m c) := cast_eq m c k (sl k) f hf
  ihave Hb' := (Entails.of_eq (write_settled (c := (c : Thread nD τ)) (bM.access (chR k)) fullShare b (bv m c) _ hw)) $$ Hb
  rw [wp_ret]; imodintro
  iapply Hk
  isplitl [Hf]; · iexists f; iexact Hf
  iexact Hb'

theorem wp_extStore :
    iprop(rAt c k (bv m (peer c)) ∗ (∃ f, gAt (F := F) c (sl k) f))
      ⊢ iprop(((rAt c k (bv m (peer c)) ∗ gHold m c k) -∗ Q ⟨⟩) -∗ WP c (extStore k) Q) := by
  unfold extStore gHold gAt rAt
  simp only [Prog.lift, Prog.bind_op, Prog.bind_ret]
  iintro ⟨Hr, ⟨%g, Hg⟩⟩ Hk
  have hs : (gM.access (slR (sl k))).set ⊆ (gSl (sl k)).view.set := (gSl_set (sl k)).ge
  iapply (wp_load_rect 𝒱₀ (c : Thread nD τ) none Set.univ (m := rM) (r := chR k) (S := (rCh k).view.set) (Finset.Subset.refl _)) $$ Hr
  iintro Hr
  iapply (wp_load_rect 𝒱₀ (c : Thread nD τ) none Set.univ (m := gM) (r := slR (sl k)) (S := (gSl (sl k)).view.set) hs) $$ Hg
  iintro Hg
  iapply (wp_store 𝒱₀ (c : Thread nD τ) none Set.univ (m := gM) (r := slR (sl k)) (Mk := Finset.univ) (S := (gSl (sl k)).view.set) hs) $$ Hg
  iintro Hg
  rw [wp_ret]; imodintro
  iapply Hk
  isplitl [Hr]; · iexact Hr
  iexists _
  isplitr
  · ipureintro; exact (ext_eq c k (sl k) g (bv m (peer c))).trans (outCh_eq m c k)
  · iexact Hg

end Cert.Gather

end
-- ==== Proof.Phases.lean ====
/-
  The body's phases over all chunks: one round of sending, of receiving, of waiting for the sent, each for any chunk;
  then the four phases in a row.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)

/-! ## Families over the chunks from one on, and before one -/

omit [FloatOps F] in
theorem ge_peel (k : Fin 8) (Φ : Fin 8 → sProp 𝕄) : bigSep (ge k.val) Φ = iprop(Φ k ∗ bigSep (ge (k.val + 1)) Φ) := by
  rw [(ge_step k).1, bigSep_insert (ge_step k).2]; rfl
omit [FloatOps F] in
theorem lt_push (k : Fin 8) (Φ : Fin 8 → sProp 𝕄) : bigSep (lt (k.val + 1)) Φ = iprop(Φ k ∗ bigSep (lt k.val) Φ) := by
  rw [(lt_step k).1, bigSep_insert (lt_step k).2]; rfl

/-- The slot the chunk after `k` goes to. -/
abbrev sl1 (k : Fin 8) : Fin 2 := ⟨(k.val + 1) % 2, Nat.mod_lt _ (by decide)⟩

/-- The tokens with which chunk `j` is sent. -/
def sendTok (c : Dev nD) (j : Fin 8) : sProp 𝕄 := iprop(dutyTok ER (sendCell c j) 0 () ∗ dutyTok ER (recvCell (peer c) j) 0 ())

/-- The chunks before the `n`-th are sent: what is left for the others, and the credits for the sent. -/
def sending (c : Dev nD) (n : ℕ) : sProp 𝕄 :=
  iprop(bigSep (ge n) (fun j => iprop(∃ b, bAt (F := F) c j b)) ∗ bigSep (ge n) (fun j => iprop(∃ f, rAt (F := F) (peer c) j f))
    ∗ bigSep (ge n) (sendTok (F := F) c) ∗ bigSep (lt n) (fun j => cred (tallyAt (sendCell c j) () N)) ∗ ow (F := F) c n)

/-- Before a round of sending: chunk `k` on its way into its slot, the other slot free. -/
def pushSt (c : Dev nD) (k : Fin 8) : sProp 𝕄 :=
  iprop(inFl m c k ∗ fFree (F := F) c (sl1 k) ∗ bigSep (lt k.val) (xAt m c) ∗ bigSep (ge (k.val + 1)) (xAt m c) ∗ sending (F := F) c k.val)

/-- The chunks before the `n`-th are received and on their way out. -/
def pullSt (c : Dev nD) (n : ℕ) : sProp 𝕄 :=
  iprop(bigSep (ge n) (fun j => iprop(cred (tallyAt (recvCell c j) () N) ∗ atPos ER (recvCell c j) 0 ∅ 0))
    ∗ bigSep (lt n) (fun j => iprop(atPos ER (recvCell c j) 1 ∅ 0 ∗ rAt c j (bv m (peer c))))
    ∗ bigSep (ge n) (fun j => iprop(∃ f, oAt (F := F) c j f)) ∗ ow (F := F) c 8)

/-- The transfers before the `n`-th have been waited for. -/
def sentSt (c : Dev nD) (n : ℕ) : sProp 𝕄 :=
  iprop(bigSep (ge n) (fun j => iprop(cred (tallyAt (sendCell c j) () N) ∗ atPos ER (sendCell c j) 0 ∅ 0))
    ∗ bigSep (lt n) (fun j => iprop(atPos ER (sendCell c j) 1 ∅ 0 ∗ bAt c j (bv m c))) ∗ ow (F := F) c 8)

variable {m K}
variable (c : Dev nD) (k : Fin 8) {Q : PUnit → sProp (MT nD τ sig Unit (Elt F) ℕ UU ℕ)}

/-! ## One round of each -/

/-- Chunk `k`, in its slot's flight, is waited for, rounded and sent. -/
theorem wp_ship :
    iprop(recs m K ∗ levAts L lv ∗ inFl m c k ∗ bigSep (lt k.val) (xAt m c) ∗ sending (F := F) c k.val)
      ⊢ iprop(((fFree (F := F) c (sl k) ∗ bigSep (lt (k.val + 1)) (xAt m c) ∗ sending (F := F) c (k.val + 1)) -∗ Q ⟨⟩)
        -∗ WP c (inWait k) (fun _ => WP c (castStore k) (fun _ => WP c (rdma c k) Q))) := by
  unfold sending sendTok fFree
  rw [ge_peel k, ge_peel k, ge_peel k, lt_push k, lt_push k]
  iintro ⟨#HR, #Hlev, Hin, Hxs, ⟨Hb, Hbs⟩, ⟨Hr, Hrs⟩, ⟨⟨Hs, Ht⟩, Hts⟩, Hcs, HO⟩ Hk
  iapply (wp_inWait (m := m) c k k.val) $$ [Hin HO]
  · isplitr; · iexact Hlev
    isplitl [Hin]; · iexact Hin
    iexact HO
  iintro ⟨⟨Hf, Hx⟩, Hv, HO⟩
  iapply (wp_castStore (m := m) c k) $$ [Hf Hb]
  · isplitl [Hf]; · iexact Hf
    iexact Hb
  iintro ⟨Hf, Hb⟩
  iapply (wp_rdma (m := m) (K := K) c k) $$ [Hb Hr HO Hs Ht]
  · isplitr; · iexact HR
    isplitl [Hb]; · iexact Hb
    isplitl [Hr]; · iexact Hr
    isplitl [HO]; · iexact HO
    isplitl [Hs]; · iexact Hs
    iexact Ht
  iintro ⟨Hc, HO⟩
  iapply Hk
  isplitl [Hv Hf]
  · isplitl [Hv]; · iexact Hv
    iexact Hf
  isplitl [Hx Hxs]
  · isplitl [Hx]; · iexact Hx
    iexact Hxs
  isplitl [Hbs]; · iexact Hbs
  isplitl [Hrs]; · iexact Hrs
  isplitl [Hts]; · iexact Hts
  isplitl [Hc Hcs]
  · isplitl [Hc]; · iexact Hc
    iexact Hcs
  iexact HO

theorem wp_push (h : k.val + 1 < 8) :
    iprop(recs m K ∗ levAts L lv ∗ pushSt m c k)
      ⊢ iprop((pushSt m c ⟨k.val + 1, h⟩ -∗ Q ⟨⟩) -∗ WP c (push c k ⟨k.val + 1, h⟩) Q) := by
  have hs : sl1 ⟨k.val + 1, h⟩ = sl k := Fin.ext (by show (k.val + 1 + 1) % 2 = k.val % 2; omega)
  unfold pushSt push
  rw [hs, show bigSep (ge (k.val + 1)) (xAt m c) = _ from ge_peel ⟨k.val + 1, h⟩ _]
  simp only [WP, wp_bind]
  iintro ⟨#HR, #Hlev, Hin, Hfree, Hxs, ⟨Hx, Hxr⟩, Hsend⟩ Hk
  iapply (wp_inStart (m := m) c ⟨k.val + 1, h⟩) $$ [Hx Hfree]
  · isplitl [Hx]; · iexact Hx
    iexact Hfree
  iintro Hin'
  iapply (wp_ship (m := m) (K := K) c k) $$ [Hin Hxs Hsend]
  · isplitr; · iexact HR
    isplitr; · iexact Hlev
    isplitl [Hin]; · iexact Hin
    isplitl [Hxs]; · iexact Hxs
    iexact Hsend
  iintro ⟨Hfree, Hxs, Hsend⟩
  iapply Hk
  isplitl [Hin']; · iexact Hin'
  isplitl [Hfree]; · iexact Hfree
  isplitl [Hxs]; · iexact Hxs
  isplitl [Hxr]; · iexact Hxr
  iexact Hsend

/-- Chunk `k` as received is widened and its copy into the result started. -/
theorem wp_emit :
    iprop(rAt c k (bv m (peer c)) ∗ gFree (F := F) c (sl k) ∗ (∃ f, oAt (F := F) c k f))
      ⊢ iprop(((rAt c k (bv m (peer c)) ∗ outFl m c k) -∗ Q ⟨⟩) -∗ WP c (extStore k) (fun _ => WP c (outStart c k) Q)) := by
  unfold gFree
  iintro ⟨Hr, ⟨Hv, Hg⟩, Ho⟩ Hk
  iapply (wp_extStore (m := m) c k) $$ [Hr Hg]
  · isplitl [Hr]; · iexact Hr
    iexact Hg
  iintro ⟨Hr, Hg⟩
  iapply (wp_outStart (m := m) c k) $$ [Hv Hg Ho]
  · isplitl [Hg]; · iexact Hg
    isplitl [Hv]; · iexact Hv
    iexact Ho
  iintro Hfl
  iapply Hk
  isplitl [Hr]; · iexact Hr
  iexact Hfl

/-- The copy of chunk `k` out is waited for: its slot is free again. -/
theorem wp_drain :
    iprop(levAts L lv ∗ outFl m c k ∗ ow (F := F) c 8)
      ⊢ iprop(((gFree (F := F) c (sl k) ∗ oAt c k (outv m c) ∗ ow (F := F) c 8) -∗ Q ⟨⟩) -∗ WP c (outWait c k) Q) := by
  unfold gFree
  iintro ⟨#Hlev, Hfl, HO⟩ Hk
  iapply (wp_outWait (m := m) c k 8) $$ [Hfl HO]
  · isplitr; · iexact Hlev
    isplitl [Hfl]; · iexact Hfl
    iexact HO
  iintro ⟨⟨Ho, Hg⟩, Hv, HO⟩
  iapply Hk
  isplitl [Hg Hv]
  · isplitl [Hv]; · iexact Hv
    iexact Hg
  isplitl [Ho]; · iexact Ho
  iexact HO

theorem wp_pull0 :
    iprop(recs m K ∗ levAts L lv ∗ pullSt m c k.val ∗ gFree (F := F) c (sl k))
      ⊢ iprop(((pullSt m c (k.val + 1) ∗ outFl m c k) -∗ Q ⟨⟩) -∗ WP c (pull0 c k) Q) := by
  unfold pullSt pull0
  rw [ge_peel k, ge_peel k, lt_push k]
  simp only [WP, wp_bind]
  iintro ⟨#HR, #Hlev, ⟨⟨⟨Hc, Hat⟩, Hcs⟩, Hds, ⟨Ho, Hos⟩, HO⟩, Hg⟩ Hk
  iapply (wp_recvWait (m := m) (K := K) c k) $$ [Hc Hat HO]
  · isplitr; · iexact HR
    isplitl [Hc]; · iexact Hc
    isplitl [HO]; · iexact HO
    iexact Hat
  iintro ⟨HO, Hat, Hr⟩
  iapply (wp_emit (m := m) c k) $$ [Hr Hg Ho]
  · isplitl [Hr]; · iexact Hr
    isplitl [Hg]; · iexact Hg
    iexact Ho
  iintro ⟨Hr, Hfl⟩
  iapply Hk
  isplitr [Hfl]
  · isplitl [Hcs]; · iexact Hcs
    isplitl [Hat Hr Hds]
    · isplitl [Hat Hr]
      · isplitl [Hat]; · iexact Hat
        iexact Hr
      iexact Hds
    isplitl [Hos]; · iexact Hos
    iexact HO
  iexact Hfl

theorem wp_pull (k' : Fin 8) (hs : sl k' = sl k) :
    iprop(recs m K ∗ levAts L lv ∗ pullSt m c k.val ∗ outFl m c k' ∗ bigSep (lt k'.val) (fun j => oAt c j (outv m c)))
      ⊢ iprop(((pullSt m c (k.val + 1) ∗ outFl m c k ∗ bigSep (lt (k'.val + 1)) (fun j => oAt c j (outv m c))) -∗ Q ⟨⟩) -∗ WP c (pull c k k') Q) := by
  unfold pullSt pull
  rw [ge_peel k, ge_peel k, lt_push k, lt_push k']
  simp only [WP, wp_bind]
  iintro ⟨#HR, #Hlev, ⟨⟨⟨Hc, Hat⟩, Hcs⟩, Hds, ⟨Ho, Hos⟩, HO⟩, Hfl, Hdone⟩ Hk
  iapply (wp_recvWait (m := m) (K := K) c k) $$ [Hc Hat HO]
  · isplitr; · iexact HR
    isplitl [Hc]; · iexact Hc
    isplitl [HO]; · iexact HO
    iexact Hat
  iintro ⟨HO, Hat, Hr⟩
  iapply (wp_drain (m := m) c k') $$ [Hfl HO]
  · isplitr; · iexact Hlev
    isplitl [Hfl]; · iexact Hfl
    iexact HO
  rw [hs]
  iintro ⟨Hg, Ho', HO⟩
  iapply (wp_emit (m := m) c k) $$ [Hr Hg Ho]
  · isplitl [Hr]; · iexact Hr
    isplitl [Hg]; · iexact Hg
    iexact Ho
  iintro ⟨Hr, Hfl⟩
  iapply Hk
  isplitr [Hfl Ho' Hdone]
  · isplitl [Hcs]; · iexact Hcs
    isplitl [Hat Hr Hds]
    · isplitl [Hat Hr]
      · isplitl [Hat]; · iexact Hat
        iexact Hr
      iexact Hds
    isplitl [Hos]; · iexact Hos
    iexact HO
  isplitl [Hfl]; · iexact Hfl
  isplitl [Ho']; · iexact Ho'
  iexact Hdone

theorem wp_sent :
    iprop(recs m K ∗ sentSt m c k.val) ⊢ iprop((sentSt m c (k.val + 1) -∗ Q ⟨⟩) -∗ WP c (sendWait k) Q) := by
  unfold sentSt
  rw [ge_peel k, lt_push k]
  iintro ⟨#HR, ⟨⟨Hc, Hat⟩, Hcs⟩, Hds, HO⟩ Hk
  iapply (wp_sendWait (m := m) (K := K) c k) $$ [Hc Hat HO]
  · isplitr; · iexact HR
    isplitl [Hc]; · iexact Hc
    isplitl [HO]; · iexact HO
    iexact Hat
  iintro ⟨HO, Hat, Hb⟩
  iapply Hk
  isplitl [Hcs]; · iexact Hcs
  isplitr [HO]
  · isplitl [Hat Hb]
    · isplitl [Hat]; · iexact Hat
      iexact Hb
    iexact Hds
  iexact HO

/-! ## The phases -/

theorem wp_opening (W : Waits sig Unit) :
    iprop(recs m K ∗ levAts L lv ∗ owes (c : Thread nD τ) (O₀ c) W ∗ dutyTok ER (barCell (peer c)) 0 () ∗ barPay (F := F) (peer c)
        ∗ xL m c ∗ (∃ f, oOwnAt (F := F) c f) ∗ semVal ((c : Thread nD τ), .dma locS) 0
        ∗ bigSep (ge 0) (xAt m c) ∗ fFree (F := F) c 0 ∗ fFree (F := F) c 1
        ∗ bigSep (ge 0) (fun j => iprop(∃ b, bAt (F := F) c j b)) ∗ bigSep (ge 0) (sendTok (F := F) c)
        ∗ cred (tallyAt (barCell c) () 1) ∗ atPos ER (barCell c) 0 ∅ 0)
      ⊢ iprop(((pushSt m c 1 ∗ ownFl m c ∗ atPos ER (barCell c) 1 ∅ 0) -∗ Q ⟨⟩) -∗ WP c (opening c) Q) := by
  unfold opening pushSt sending
  rw [show bigSep (ge 0) (xAt m c) = _ from ge_peel 0 _, show bigSep (ge (((0 : Fin 8) : ℕ) + 1)) (xAt m c) = _ from ge_peel 1 _,
    show bigSep (ge 0) (fun j => iprop(∃ b, bAt (F := F) c j b)) = _ from ge_peel 0 _,
    show bigSep (ge 0) (sendTok (F := F) c) = _ from ge_peel 0 _,
    show bigSep (lt ((1 : Fin 8) : ℕ)) (xAt m c) = _ from lt_push 0 _,
    show bigSep (lt ((1 : Fin 8) : ℕ)) (fun j => (cred (tallyAt (sendCell c j) () N) : sProp 𝕄)) = _ from lt_push 0 _]
  simp only [WP, wp_bind]
  iintro ⟨#HR, #Hlev, HO, HtB, HpB, HxL, Hown, Hvl, ⟨Hx0, Hx1, Hxs⟩, Hf0, Hf1, ⟨Hb0, Hbs⟩, ⟨Ht0, Hts⟩, HcB, HatB⟩ Hk
  iapply (wp_signal' (m := m) (K := K) c W) $$ [HO HtB HpB]
  · isplitr; · iexact HR
    isplitl [HO]; · iexact HO
    isplitl [HtB]; · iexact HtB
    iexact HpB
  iintro HO
  iapply (wp_ownStart (m := m) c) $$ [HxL Hown Hvl]
  · isplitl [HxL]; · iexact HxL
    isplitl [Hown]; · iexact Hown
    iexact Hvl
  iintro Hofl
  iapply (wp_inStart (m := m) c 0) $$ [Hx0 Hf0]
  · isplitl [Hx0]; · iexact Hx0
    iexact Hf0
  iintro Hin
  iapply (wp_inWait (m := m) c 0 0) $$ [Hin HO]
  · isplitr; · iexact Hlev
    isplitl [Hin]; · iexact Hin
    iexact HO
  iintro ⟨⟨Hf, Hx0⟩, Hv, HO⟩
  iapply (wp_castStore (m := m) c 0) $$ [Hf Hb0]
  · isplitl [Hf]; · iexact Hf
    iexact Hb0
  iintro ⟨Hf, Hb0⟩
  iapply (wp_inStart (m := m) c 1) $$ [Hx1 Hf1]
  · isplitl [Hx1]; · iexact Hx1
    iexact Hf1
  iintro Hin
  iapply (wp_barWait (m := m) (K := K) c) $$ [HcB HatB HO]
  · isplitr; · iexact HR
    isplitr; · iexact Hlev
    isplitl [HcB]; · iexact HcB
    isplitl [HO]; · iexact HO
    iexact HatB
  iintro ⟨HO, HatB, Hpay⟩
  unfold barPay
  ihave Hr := (Entails.of_eq ((congrArg (fun s => bigSep s (fun j : Fin 8 => iprop(∃ f, rAt (F := F) (peer c) j f))) ge_zero.symm).trans
    (ge_peel 0 _))) $$ Hpay
  icases Hr with ⟨Hr0, Hrs⟩
  unfold sendTok
  icases Ht0 with ⟨Hs0, Ht0⟩
  iapply (wp_rdma (m := m) (K := K) c 0) $$ [Hb0 Hr0 HO Hs0 Ht0]
  · isplitr; · iexact HR
    isplitl [Hb0]; · iexact Hb0
    isplitl [Hr0]; · iexact Hr0
    isplitl [HO]; · iexact HO
    isplitl [Hs0]; · iexact Hs0
    iexact Ht0
  iintro ⟨Hc0, HO⟩
  iapply Hk
  rw [show lt ((0 : Fin 8) : ℕ) = ∅ from lt_zero, bigSep_empty, bigSep_empty]
  isplitr [Hofl HatB]
  · isplitl [Hin]; · iexact Hin
    isplitl [Hv Hf]
    · unfold fFree
      isplitl [Hv]; · iexact Hv
      iexact Hf
    isplitl [Hx0]
    · isplitl [Hx0]; · iexact Hx0
      iempintro
    isplitl [Hxs]; · iexact Hxs
    isplitl [Hbs]; · iexact Hbs
    isplitl [Hrs]; · iexact Hrs
    isplitl [Hts]; · iexact Hts
    isplitl [Hc0]
    · isplitl [Hc0]; · iexact Hc0
      iempintro
    iexact HO
  isplitl [Hofl]; · iexact Hofl
  iexact HatB

theorem wp_pushing :
    iprop(recs m K ∗ levAts L lv ∗ pushSt m c 1)
      ⊢ iprop(((fFree (F := F) c 0 ∗ fFree (F := F) c 1 ∗ bigSep (lt 8) (xAt m c) ∗ sending (F := F) c 8) -∗ Q ⟨⟩) -∗ WP c (pushing c) Q) := by
  unfold pushing
  simp only [WP, wp_bind]
  iintro ⟨#HR, #Hlev, H⟩ Hk
  iapply (wp_push (m := m) (K := K) c 1 (by decide)) $$ [H]
  · isplitr; · iexact HR
    isplitr; · iexact Hlev
    iexact H
  iintro H
  iapply (wp_push (m := m) (K := K) c 2 (by decide)) $$ [H]
  · isplitr; · iexact HR
    isplitr; · iexact Hlev
    iexact H
  iintro H
  iapply (wp_push (m := m) (K := K) c 3 (by decide)) $$ [H]
  · isplitr; · iexact HR
    isplitr; · iexact Hlev
    iexact H
  iintro H
  iapply (wp_push (m := m) (K := K) c 4 (by decide)) $$ [H]
  · isplitr; · iexact HR
    isplitr; · iexact Hlev
    iexact H
  iintro H
  iapply (wp_push (m := m) (K := K) c 5 (by decide)) $$ [H]
  · isplitr; · iexact HR
    isplitr; · iexact Hlev
    iexact H
  iintro H
  iapply (wp_push (m := m) (K := K) c 6 (by decide)) $$ [H]
  · isplitr; · iexact HR
    isplitr; · iexact Hlev
    iexact H
  unfold pushSt
  iintro ⟨Hin, Hfree, Hxs, -, Hsend⟩
  iapply (wp_ship (m := m) (K := K) c 7) $$ [Hin Hxs Hsend]
  · isplitr; · iexact HR
    isplitr; · iexact Hlev
    isplitl [Hin]; · iexact Hin
    isplitl [Hxs]; · iexact Hxs
    iexact Hsend
  iintro ⟨Hfree', Hxs, Hsend⟩
  iapply Hk
  isplitl [Hfree]; · iexact Hfree
  isplitl [Hfree']; · iexact Hfree'
  isplitl [Hxs]; · iexact Hxs
  iexact Hsend

end Cert.Gather

end
-- ==== Proof.Body.lean ====
/-
  The whole body on one device: the four phases in a row, then every semaphore of the protocol closed at zero.
-/
module

public import proofs.«01_k».proof.Proof.Phases
public import Idealize.ShloMosaic.Lib.Rounds.Family

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)

/-- A family over a device's cells, taken apart by kind. -/
theorem cells_split (Φ : CI → sProp 𝕄) : bigSep Finset.univ Φ
    = iprop(Φ (.inl ()) ∗ bigSep Finset.univ (fun k => Φ (.inr (.inl k))) ∗ bigSep Finset.univ (fun k => Φ (.inr (.inr k)))) := by
  rw [bigSep_univ_sum, bigSep_univ_sum, bigSep_univ_of_subsingleton ()]; rfl

/-! ## What a device holds before and after -/

/-- Its memory, cut as the body uses it, and its own semaphores: the result at any contents before, at `outv` after. -/
def memIn (c : Dev nD) : sProp 𝕄 :=
  iprop((xL m c ∗ bigSep Finset.univ (xAt m c)) ∗ ((∃ f, oOwnAt (F := F) c f) ∗ bigSep Finset.univ fun k => iprop(∃ f, oAt (F := F) c k f))
    ∗ (bigSep Finset.univ fun k => iprop(∃ b, bAt (F := F) c k b)) ∗ (bigSep Finset.univ fun k => iprop(∃ f, rAt (F := F) c k f))
    ∗ semVal ((c : Thread nD τ), .dma locS) 0 ∗ (fFree (F := F) c 0 ∗ fFree (F := F) c 1) ∗ gFree (F := F) c 0 ∗ gFree (F := F) c 1)
def memOut (c : Dev nD) : sProp 𝕄 :=
  iprop((xL m c ∗ bigSep Finset.univ (xAt m c)) ∗ (oOwnAt c (outv m c) ∗ bigSep Finset.univ fun k => oAt c k (outv m c))
    ∗ (bigSep Finset.univ fun k => iprop(∃ b, bAt (F := F) c k b)) ∗ (bigSep Finset.univ fun k => iprop(∃ f, rAt (F := F) c k f))
    ∗ semVal ((c : Thread nD τ), .dma locS) 0 ∗ (fFree (F := F) c 0 ∗ fFree (F := F) c 1) ∗ gFree (F := F) c 0 ∗ gFree (F := F) c 1)

/-- The tokens of the duties it pays. -/
def payToks (c : Dev nD) : sProp 𝕄 := iprop(dutyTok ER (barCell (peer c)) 0 () ∗ bigSep Finset.univ (sendTok (F := F) c))
/-- The credits of its launch. -/
def startCred (c : Dev nD) : sProp 𝕄 :=
  iprop(cred (tallyAt (barCell c) () 1) ∗ bigSep Finset.univ fun k => cred (tallyAt (recvCell c k) () N))
/-- Its place in each of its cells' rounds. -/
def places (c : Dev nD) (r : ℕ) : sProp 𝕄 := bigSep Finset.univ fun i : CI => atPos ER (kcell (c, i)) r ∅ 0

variable {m K}
variable (c : Dev nD) {Q : PUnit → sProp (MT nD τ sig Unit (Elt F) ℕ UU ℕ)}

/-! ## Receiving and closing -/

theorem wp_pulling :
    iprop(recs m K ∗ levAts L lv ∗ pullSt m c 0 ∗ gFree (F := F) c 0 ∗ gFree (F := F) c 1)
      ⊢ iprop(((pullSt m c 8 ∗ outFl m c 6 ∗ outFl m c 7 ∗ bigSep (lt 6) (fun j => oAt c j (outv m c))) -∗ Q ⟨⟩) -∗ WP c (pulling c) Q) := by
  unfold pulling
  simp only [WP, wp_bind]
  iintro ⟨#HR, #Hlev, H, Hg0, Hg1⟩ Hk
  iapply (wp_pull0 (m := m) (K := K) c 0) $$ [H Hg0]
  · isplitr; · iexact HR
    isplitr; · iexact Hlev
    isplitl [H]; · iexact H
    iexact Hg0
  iintro ⟨H, Ha⟩
  iapply (wp_pull0 (m := m) (K := K) c 1) $$ [H Hg1]
  · isplitr; · iexact HR
    isplitr; · iexact Hlev
    isplitl [H]; · iexact H
    iexact Hg1
  iintro ⟨H, Hb⟩
  ihave Hd := (show (emp : sProp 𝕄) ⊢ bigSep (lt 0) (fun j => oAt c j (outv m c)) from by rw [lt_zero, bigSep_empty]; exact .rfl) $$ []
  · iempintro
  iapply (wp_pull (m := m) (K := K) c 2 0 rfl) $$ [H Ha Hd]
  · isplitr; · iexact HR
    isplitr; · iexact Hlev
    isplitl [H]; · iexact H
    isplitl [Ha]; · iexact Ha
    iexact Hd
  iintro ⟨H, Ha, Hd⟩
  iapply (wp_pull (m := m) (K := K) c 3 1 rfl) $$ [H Hb Hd]
  · isplitr; · iexact HR
    isplitr; · iexact Hlev
    isplitl [H]; · iexact H
    isplitl [Hb]; · iexact Hb
    iexact Hd
  iintro ⟨H, Hb, Hd⟩
  iapply (wp_pull (m := m) (K := K) c 4 2 rfl) $$ [H Ha Hd]
  · isplitr; · iexact HR
    isplitr; · iexact Hlev
    isplitl [H]; · iexact H
    isplitl [Ha]; · iexact Ha
    iexact Hd
  iintro ⟨H, Ha, Hd⟩
  iapply (wp_pull (m := m) (K := K) c 5 3 rfl) $$ [H Hb Hd]
  · isplitr; · iexact HR
    isplitr; · iexact Hlev
    isplitl [H]; · iexact H
    isplitl [Hb]; · iexact Hb
    iexact Hd
  iintro ⟨H, Hb, Hd⟩
  iapply (wp_pull (m := m) (K := K) c 6 4 rfl) $$ [H Ha Hd]
  · isplitr; · iexact HR
    isplitr; · iexact Hlev
    isplitl [H]; · iexact H
    isplitl [Ha]; · iexact Ha
    iexact Hd
  iintro ⟨H, Ha, Hd⟩
  iapply (wp_pull (m := m) (K := K) c 7 5 rfl) $$ [H Hb Hd]
  · isplitr; · iexact HR
    isplitr; · iexact Hlev
    isplitl [H]; · iexact H
    isplitl [Hb]; · iexact Hb
    iexact Hd
  iintro ⟨H, Hb, Hd⟩
  iapply Hk
  isplitl [H]; · iexact H
  isplitl [Ha]; · iexact Ha
  isplitl [Hb]; · iexact Hb
  iexact Hd

theorem wp_closing :
    iprop(recs m K ∗ levAts L lv ∗ sentSt m c 0 ∗ outFl m c 6 ∗ outFl m c 7 ∗ ownFl m c)
      ⊢ iprop(((sentSt m c 8 ∗ (gFree (F := F) c 0 ∗ gFree (F := F) c 1) ∗ (oAt c 6 (outv m c) ∗ oAt c 7 (outv m c))
          ∗ (oOwnAt c (outv m c) ∗ xL m c) ∗ semVal ((c : Thread nD τ), .dma locS) 0) -∗ Q ⟨⟩) -∗ WP c (closing c) Q) := by
  unfold closing
  simp only [WP, wp_bind]
  iintro ⟨#HR, #Hlev, H, Ha, Hb, Hown⟩ Hk
  iapply (wp_sent (m := m) (K := K) c 0) $$ [H]
  · isplitr; · iexact HR
    iexact H
  iintro H
  iapply (wp_sent (m := m) (K := K) c 1) $$ [H]
  · isplitr; · iexact HR
    iexact H
  iintro H
  iapply (wp_sent (m := m) (K := K) c 2) $$ [H]
  · isplitr; · iexact HR
    iexact H
  iintro H
  iapply (wp_sent (m := m) (K := K) c 3) $$ [H]
  · isplitr; · iexact HR
    iexact H
  iintro H
  iapply (wp_sent (m := m) (K := K) c 4) $$ [H]
  · isplitr; · iexact HR
    iexact H
  iintro H
  iapply (wp_sent (m := m) (K := K) c 5) $$ [H]
  · isplitr; · iexact HR
    iexact H
  iintro H
  iapply (wp_sent (m := m) (K := K) c 6) $$ [H]
  · isplitr; · iexact HR
    iexact H
  iintro H
  iapply (wp_sent (m := m) (K := K) c 7) $$ [H]
  · isplitr; · iexact HR
    iexact H
  iintro H
  unfold sentSt
  icases H with ⟨H1, H2, HO⟩
  iapply (wp_drain (m := m) c 6) $$ [Ha HO]
  · isplitr; · iexact Hlev
    isplitl [Ha]; · iexact Ha
    iexact HO
  iintro ⟨Hg0, Ho6, HO⟩
  iapply (wp_drain (m := m) c 7) $$ [Hb HO]
  · isplitr; · iexact Hlev
    isplitl [Hb]; · iexact Hb
    iexact HO
  iintro ⟨Hg1, Ho7, HO⟩
  iapply (wp_ownWait (m := m) c) $$ [Hown HO]
  · isplitr; · iexact Hlev
    isplitl [Hown]; · iexact Hown
    iexact HO
  iintro ⟨Hox, Hv, HO⟩
  iapply Hk
  isplitl [H1 H2 HO]
  · isplitl [H1]; · iexact H1
    isplitl [H2]; · iexact H2
    iexact HO
  isplitl [Hg0 Hg1]
  · isplitl [Hg0]; · iexact Hg0
    iexact Hg1
  isplitl [Ho6 Ho7]
  · isplitl [Ho6]; · iexact Ho6
    iexact Ho7
  isplitl [Hox]; · iexact Hox
  iexact Hv

/-- Every cell of the device, its one round over, is closed: its counter is zero. -/
theorem close_cells : iprop(recs m K ∗ places (F := F) c 1) ⊢ |={Set.univ}=> bigSep Finset.univ fun i : CI => semVal (kcell (c, i)) 0 := by
  unfold places
  refine (bigSep_with_persistent (R := recs m K) (Ψ := fun i : CI => iprop(cellInv ER (ringRd m) (K (c, i)) (kcell (c, i)) ∗ atPos ER (kcell (c, i)) 1 ∅ 0))
    fun i _ => sep_mono_left (inv_at m K (c, i))).trans ?_
  exact cells_close ER (ringRd m) Finset.univ (fun i : CI => kcell (c, i)) (fun i => K (c, i)) (fun _ _ => Set.mem_univ _)
    (fun _ _ h => h) (fun _ => 1) (fun i _ => duties_later m _)

/-! ## The body -/

theorem wp_body (W : Waits sig Unit) :
    iprop(recs m K ∗ levAts L lv ∗ owes (c : Thread nD τ) (O₀ c) W ∗ payToks (F := F) c ∗ startCred (F := F) c ∗ places (F := F) c 0 ∗ memIn m c)
      ⊢ iprop(((memOut m c ∗ (bigSep Finset.univ fun i : CI => semVal (kcell (c, i)) 0) ∗ ∃ W, owes (c : Thread nD τ) 0 W) -∗ Q ⟨⟩)
        -∗ WP c (body (F := F)) Q) := by
  unfold body payToks startCred
  simp only [Prog.lift, Prog.bind_op, WP, wp_bind, wp_deviceId, wp_ret, fupd_wp_eq]
  iintro ⟨#HR, #Hlev, HO, ⟨HtB, Hts⟩, ⟨HcB, HcR⟩, Hat, Hm⟩ Hk
  unfold memIn
  icases Hm with ⟨⟨HxL, Hxs⟩, ⟨Hown, Hos⟩, Hbs, Hrs, Hvl, ⟨Hf0, Hf1⟩, Hg0, Hg1⟩
  ihave Hat := (Entails.of_eq (show places (F := F) c 0 = _ from cells_split _)) $$ Hat
  icases Hat with ⟨HaB, HaS, HaR⟩
  iapply (wp_opening (m := m) (K := K) c W) $$ [HO HtB Hts HcB HaB Hrs HxL Hxs Hown Hvl Hf0 Hf1 Hbs]
  · isplitr; · iexact HR
    isplitr; · iexact Hlev
    isplitl [HO]; · iexact HO
    isplitl [HtB]; · iexact HtB
    isplitl [Hrs]; · unfold barPay; rw [peer_peer]; iexact Hrs
    isplitl [HxL]; · iexact HxL
    isplitl [Hown]; · iexact Hown
    isplitl [Hvl]; · iexact Hvl
    rw [ge_zero]
    isplitl [Hxs]; · iexact Hxs
    isplitl [Hf0]; · iexact Hf0
    isplitl [Hf1]; · iexact Hf1
    isplitl [Hbs]; · iexact Hbs
    isplitl [Hts]; · iexact Hts
    isplitl [HcB]; · iexact HcB
    iexact HaB
  iintro ⟨Hpush, Hown, HaB⟩
  iapply (wp_pushing (m := m) (K := K) c) $$ [Hpush]
  · isplitr; · iexact HR
    isplitr; · iexact Hlev
    iexact Hpush
  unfold sending
  iintro ⟨Hf0, Hf1, Hxs, -, -, -, HcS, HO⟩
  iapply (wp_pulling (m := m) (K := K) c) $$ [HcR HaR Hos HO Hg0 Hg1]
  · isplitr; · iexact HR
    isplitr; · iexact Hlev
    isplitr [Hg0 Hg1]
    · unfold pullSt
      rw [ge_zero, lt_zero, bigSep_empty, bigSep_sep']
      isplitl [HcR HaR]
      · isplitl [HcR]; · iexact HcR
        iexact HaR
      isplitr; · iempintro
      isplitl [Hos]; · iexact Hos
      iexact HO
    isplitl [Hg0]; · iexact Hg0
    iexact Hg1
  unfold pullSt
  rw [ge_eight, lt_eight, bigSep_empty, bigSep_empty, bigSep_sep']
  iintro ⟨⟨-, ⟨HaR, Hrs⟩, -, HO⟩, Ha, Hb, Hos⟩
  iapply (wp_fupd (p := closing c) (Q := Q))
  iapply (wp_closing (m := m) (K := K) c) $$ [HcS HaS HO Ha Hb Hown]
  · isplitr; · iexact HR
    isplitr; · iexact Hlev
    isplitl [HcS HaS HO]
    · unfold sentSt
      rw [ge_zero, lt_zero, bigSep_empty, bigSep_sep']
      isplitl [HcS HaS]
      · isplitl [HcS]; · iexact HcS
        iexact HaS
      isplitr; · iempintro
      iexact HO
    isplitl [Ha]; · iexact Ha
    isplitl [Hb]; · iexact Hb
    iexact Hown
  unfold sentSt
  rw [ge_eight, lt_eight, bigSep_empty, bigSep_sep']
  iintro ⟨⟨-, ⟨HaS, Hbs⟩, HO⟩, ⟨Hg0, Hg1⟩, ⟨Ho6, Ho7⟩, ⟨Hown, HxL⟩, Hvl⟩
  imod (close_cells (m := m) (K := K) c) $$ [HaB HaS HaR] with Hz
  · isplitr; · iexact HR
    unfold places; rw [cells_split]
    isplitl [HaB]; · iexact HaB
    isplitl [HaS]; · iexact HaS
    iexact HaR
  imodintro
  iapply Hk
  isplitr [Hz HO]
  · unfold memOut
    isplitl [HxL Hxs]
    · isplitl [HxL]; · iexact HxL
      iexact Hxs
    isplitl [Hown Hos Ho6 Ho7]
    · isplitl [Hown]; · iexact Hown
      rw [← lt_eight, show bigSep (lt 8) (fun j => oAt c j (outv m c)) = _ from lt_push 7 _,
        show bigSep (lt ((7 : Fin 8) : ℕ)) (fun j => oAt c j (outv m c)) = _ from lt_push 6 _]
      isplitl [Ho7]; · iexact Ho7
      isplitl [Ho6]; · iexact Ho6
      iexact Hos
    isplitl [Hbs]
    · iapply (show (bigSep Finset.univ fun k : Fin 8 => bAt c k (bv m c)) ⊢ bigSep Finset.univ fun k => iprop(∃ b, bAt (F := F) c k b) from
        bigSep_mono fun k _ => exists_intro (Φ := fun b => bAt (F := F) c k b) (bv m c))
      iexact Hbs
    isplitl [Hrs]
    · iapply (show (bigSep Finset.univ fun k : Fin 8 => rAt c k (bv m (peer c))) ⊢ bigSep Finset.univ fun k => iprop(∃ b, rAt (F := F) c k b) from
        bigSep_mono fun k _ => exists_intro (Φ := fun b => rAt (F := F) c k b) (bv m (peer c)))
      iexact Hrs
    isplitl [Hvl]; · iexact Hvl
    isplitl [Hf0 Hf1]
    · isplitl [Hf0]; · iexact Hf0
      iexact Hf1
    isplitl [Hg0]; · iexact Hg0
    iexact Hg1
  isplitl [Hz]; · iexact Hz
  unfold ow
  icases HO with ⟨%W', HO⟩
  iexists W'
  rw [← Osend_eight c]
  iexact HO

end Cert.Gather

end
-- ==== Proof.Carving.lean ====
/-
  A device's memory, cut into the pieces the body works on, and put together again.
-/
module

public import proofs.«01_k».proof.Proof.Body
public import Idealize.ShloMosaic.Lib.Ring

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-! ## Blocks told apart by a function of the place -/

theorem told {B X : Type} [Fintype B] [DecidableEq B] [Fintype X] [DecidableEq X] (I : B → Finset X) (g : X → B)
    (h : ∀ b i, Iff (i ∈ I b) (g i = b)) :
    (∀ b b', b ≠ b' → Disjoint (I b) (I b')) ∧ Finset.univ.biUnion I = Finset.univ :=
  ⟨fun b b' hb => Finset.disjoint_left.mpr fun i hi hi' => hb (((h b i).mp hi).symm.trans ((h b' i).mp hi')),
    Finset.eq_univ_iff_forall.mpr fun i => Finset.mem_biUnion.mpr ⟨g i, Finset.mem_univ _, (h _ i).mpr rfl⟩⟩

/-- The chunk a row of a block is in. -/
def chOf (i : S4096x1024.Idx) : Fin 8 := ⟨(i 0).val / 512, by have : (i 0).val < 4096 := (i 0).isLt; omega⟩

theorem mem_chR (k : Fin 8) (i : S4096x1024.Idx) : Iff (i ∈ (chR k).set) (chOf i = k) := by
  have h0 : (i 0).val < 4096 := (i 0).isLt
  have h1 : (i 1).val < 1024 := (i 1).isLt
  rw [Rect.mem_set_unit, Fin.forall_fin_two, Fin.ext_iff]
  show Iff ((512 * k.val ≤ (i 0).val ∧ (i 0).val < 512 * k.val + 512) ∧ 0 ≤ (i 1).val ∧ (i 1).val < 0 + 1024) ((i 0).val / 512 = k.val)
  omega

/-- The slot a place is in. -/
def slotOf (i : S2x512x1024.Idx) : Fin 2 := ⟨(i 0).val, (i 0).isLt⟩

theorem mem_slR (s : Fin 2) (i : S2x512x1024.Idx) : Iff (i ∈ (slR s).set) (slotOf i = s) := by
  have h1 : (i 1).val < 512 := (i 1).isLt
  have h2 : (i 2).val < 1024 := (i 2).isLt
  rw [Rect.mem_set_unit, Fin.forall_fin_succ, Fin.forall_fin_two, Fin.ext_iff]
  show Iff ((s.val ≤ (i 0).val ∧ (i 0).val < s.val + 1) ∧ (0 ≤ (i 1).val ∧ (i 1).val < 0 + 512) ∧ 0 ≤ (i 2).val ∧ (i 2).val < 0 + 1024) ((i 0).val = s.val)
  omega

/-- A block of rows of the result. -/
theorem mem_rows {off : Fin 2 → ℕ} {n o : ℕ} (inb : ∀ a, off a + (![n, 1024] : Fin 2 → ℕ) a ≤ S8192x1024.size a)
    (ho : off = ![o, 0]) (i : S8192x1024.Idx) :
    Iff (i ∈ (Rect.unit (s := S8192x1024) off ![n, 1024] inb).set) (o ≤ (i 0).val ∧ (i 0).val < o + n) := by
  subst ho
  have h1 : (i 1).val < 1024 := (i 1).isLt
  rw [Rect.mem_set_unit, Fin.forall_fin_two]
  show Iff ((o ≤ (i 0).val ∧ (i 0).val < o + n) ∧ 0 ≤ (i 1).val ∧ (i 1).val < 0 + 1024) _
  omega

/-- The part of the result a row is in: the device's own half, or a chunk of the other. -/
def partOf (c : Dev nD) (i : S8192x1024.Idx) : Unit ⊕ Fin 8 :=
  if (i 0).val / 4096 = (c.val / 4) % 2 then .inl () else .inr ⟨(i 0).val % 4096 / 512, by omega⟩
/-- The parts. -/
def outPart (c : Dev nD) : Unit ⊕ Fin 8 → Finset S8192x1024.Idx
  | .inl _ => (oOwn c).view.set
  | .inr k => (oCh c k).view.set

theorem mem_part (c : Dev nD) (b : Unit ⊕ Fin 8) (i : S8192x1024.Idx) : Iff (i ∈ outPart c b) (partOf c i = b) := by
  have h0 : (i 0).val < 8192 := (i 0).isLt
  unfold partOf
  rcases b with ⟨⟩ | k
  · show Iff (i ∈ (oOwn c).view.set) _
    rw [show (oOwn c).view.set = _ from View.set_slice_whole _ _, mem_rows (n := 4096) (k0_off1_inb c) (k0_off1_eq c)]
    by_cases h : (i 0).val / 4096 = (c.val / 4) % 2
    · rw [if_pos h]; simp only [iff_true]; omega
    · rw [if_neg h]; simp only [reduceCtorEq, iff_false]; omega
  · have hk := k.isLt
    show Iff (i ∈ (oCh c k).view.set) _
    rw [show (oCh c k).view.set = _ from View.set_slice_whole _ _, mem_rows (n := 512) (k0_off2_inb c k) (k0_off2_eq c k)]
    by_cases h : (i 0).val / 4096 = (c.val / 4) % 2
    · rw [if_pos h]; simp only [reduceCtorEq, iff_false]; omega
    · rw [if_neg h]; simp only [Sum.inr.injEq, Fin.ext_iff]; omega

/-! ## The cuts -/

variable (m : (ℓ : Loc nD τ sig) → Buf (Elt F) ℓ) (c : Dev nD)

/-- The input is the two halves of it: one whole, the other its chunks. -/
theorem x_parts : ((((c : Thread nD τ).loc main_arg0) ↦{fullShare} m ((c : Thread nD τ).loc main_arg0)) : sProp 𝕄)
    = iprop(xL m c ∗ bigSep Finset.univ (xAt m c)) := by
  obtain ⟨hd, hc⟩ := told (fun k => (xCh k).view.set) chOf fun k i => by rw [View.set_slice_whole]; exact mem_chR k i
  have hs : ((((c : Thread nD τ).loc main_arg0) ↦{fullShare} m ((c : Thread nD τ).loc main_arg0)) : sProp 𝕄) ⊣⊢ _ :=
    pointsTo_share (PosShare.mem_left_op_right fullShare)
  rw [equiv_iff.mp ⟨hs.1, hs.2⟩]
  refine congr (congrArg BI.sep ?_) ?_
  · unfold xL; rw [View.set_whole]; rfl
  · have hb := Ring.pointsTo_blocks (ℓ := (c : Thread nD τ).loc main_arg0) (fun k => (xCh k).view.set) hd hc (q := fullShare.right)
      (xv m c) (Ix := Unit) (Name := ℕ) (U := UU) (Lvl := ℕ)
    unfold xAt
    exact hb

omit [FloatOps F] in
/-- The result at any contents is its own half and the other's chunks at those contents. -/
theorem out_parts (f : Buf (Elt F) ((c : Thread nD τ).loc main_v1)) :
    ((((c : Thread nD τ).loc main_v1) ↦{fullShare} f) : sProp 𝕄) = iprop(oOwnAt (F := F) c f ∗ bigSep Finset.univ fun k => oAt (F := F) c k f) := by
  obtain ⟨hd, hc⟩ := told (outPart c) (partOf c) (mem_part c)
  rw [Ring.pointsTo_blocks _ hd hc, bigSep_univ_sum, bigSep_univ_of_subsingleton ()]; rfl

omit [FloatOps F] in
/-- A buffer at some contents is its blocks, each at some contents. -/
theorem blocks_some {B : Type} [Fintype B] [DecidableEq B] {ℓ : Loc nD τ sig} (I : B → Finset ℓ.ty.shape.Idx) (g : ℓ.ty.shape.Idx → B)
    (h : ∀ b i, Iff (i ∈ I b) (g i = b)) :
    (iprop(∃ f, ℓ ↦{fullShare} f) : sProp 𝕄) ⊢ bigSep Finset.univ fun b => iprop(∃ f, ℓ ↦[I b]{fullShare} f) := by
  obtain ⟨hd, hc⟩ := told I g h
  refine exists_elim fun f => ?_
  rw [Ring.pointsTo_blocks I hd hc]
  exact bigSep_mono fun b _ => exists_intro (Φ := fun f => (ℓ ↦[I b]{fullShare} f : sProp 𝕄)) f

omit [FloatOps F] in
theorem some_blocks {B : Type} [Fintype B] [DecidableEq B] {ℓ : Loc nD τ sig} (f₀ : Buf (Elt F) ℓ) (I : B → Finset ℓ.ty.shape.Idx)
    (g : ℓ.ty.shape.Idx → B) (h : ∀ b i, Iff (i ∈ I b) (g i = b)) :
    (bigSep Finset.univ fun b => iprop(∃ f, ℓ ↦[I b]{fullShare} f) : sProp 𝕄) ⊢ iprop(∃ f, ℓ ↦{fullShare} f) := by
  obtain ⟨hd, hc⟩ := told I g h
  exact Ring.pointsTo_blocks_join_exists I hd hc f₀

/-- The body's buffers: of eight chunks the two it sends from and receives into, of two slots the two it reads into and writes from. -/
theorem mem_bCh (k : Fin 8) (i : S4096x1024.Idx) : Iff (i ∈ (bCh k).view.set) (chOf i = k) := by rw [View.set_slice_whole]; exact mem_chR k i
theorem mem_rCh (k : Fin 8) (i : S4096x1024.Idx) : Iff (i ∈ (rCh k).view.set) (chOf i = k) := by rw [View.set_slice_whole]; exact mem_chR k i
theorem mem_fSl (s : Fin 2) (i : S2x512x1024.Idx) : Iff (i ∈ (fSl s).view.set) (slotOf i = s) := by
  rw [fSl_set, show (fM.access (slR s)).set = _ from View.set_slice_whole _ _]; exact mem_slR s i
theorem mem_gSl (s : Fin 2) (i : S2x512x1024.Idx) : Iff (i ∈ (gSl s).view.set) (slotOf i = s) := by
  rw [gSl_set, show (gM.access (slR s)).set = _ from View.set_slice_whole _ _]; exact mem_slR s i

/-! ## The whole of it -/

/-- A device's own local semaphores, all zero. -/
def localSems (c : Dev nD) : sProp 𝕄 :=
  iprop((semVal ((c : Thread nD τ), .dma (inS 0)) 0 ∗ semVal ((c : Thread nD τ), .dma (inS 1)) 0)
    ∗ (semVal ((c : Thread nD τ), .dma (outS 0)) 0 ∗ semVal ((c : Thread nD τ), .dma (outS 1)) 0) ∗ semVal ((c : Thread nD τ), .dma locS) 0)

theorem mem_cut :
    iprop((((c : Thread nD τ).loc main_arg0) ↦{fullShare} m ((c : Thread nD τ).loc main_arg0))
        ∗ (((c : Thread nD τ).loc main_v1) ↦{fullShare} m ((c : Thread nD τ).loc main_v1))
        ∗ localSems (F := F) c ∗ Pipeline.scopedRest cfg0.spec c)
      ⊢ memIn m c := by
  rw [x_parts, out_parts, scopedRest0_eq]
  unfold localSems memIn fFree gFree
  iintro ⟨Hx, ⟨Hown, Hos⟩, ⟨⟨Hi0, Hi1⟩, ⟨Hw0, Hw1⟩, Hl⟩, Hf, Hb, Hr, Hg⟩
  ihave Hb := (blocks_some (ℓ := (c : Thread nD τ).loc cc0_scratch1) (fun k => (bCh k).view.set) chOf mem_bCh) $$ Hb
  ihave Hr := (blocks_some (ℓ := (c : Thread nD τ).loc cc0_scratch2) (fun k => (rCh k).view.set) chOf mem_rCh) $$ Hr
  ihave Hf := ((blocks_some (ℓ := (c : Thread nD τ).loc cc0_scratch0) (fun s => (fSl s).view.set) slotOf mem_fSl).trans (Entails.of_eq (bigSep_univ_two _))) $$ Hf
  ihave Hg := ((blocks_some (ℓ := (c : Thread nD τ).loc cc0_scratch3) (fun s => (gSl s).view.set) slotOf mem_gSl).trans (Entails.of_eq (bigSep_univ_two _))) $$ Hg
  icases Hf with ⟨Hf0, Hf1⟩
  icases Hg with ⟨Hg0, Hg1⟩
  isplitl [Hx]; · iexact Hx
  isplitl [Hown Hos]
  · isplitl [Hown]; · iexists _; iexact Hown
    iapply (show (bigSep Finset.univ fun k : Fin 8 => oAt (F := F) c k (m ((c : Thread nD τ).loc main_v1))) ⊢ bigSep Finset.univ fun k => iprop(∃ f, oAt (F := F) c k f) from
      bigSep_mono fun k _ => exists_intro (Φ := fun f => oAt (F := F) c k f) (m ((c : Thread nD τ).loc main_v1)))
    iexact Hos
  isplitl [Hb]; · iexact Hb
  isplitl [Hr]; · iexact Hr
  isplitl [Hl]; · iexact Hl
  isplitl [Hi0 Hi1 Hf0 Hf1]
  · isplitl [Hi0 Hf0]
    · isplitl [Hi0]; · iexact Hi0
      iexact Hf0
    isplitl [Hi1]; · iexact Hi1
    iexact Hf1
  isplitl [Hw0 Hg0]
  · isplitl [Hw0]; · iexact Hw0
    iexact Hg0
  isplitl [Hw1]; · iexact Hw1
  iexact Hg1

theorem mem_join :
    memOut m c
      ⊢ iprop((((c : Thread nD τ).loc main_arg0) ↦{fullShare} m ((c : Thread nD τ).loc main_arg0))
        ∗ (((c : Thread nD τ).loc main_v1) ↦{fullShare} outv m c)
        ∗ localSems (F := F) c ∗ Pipeline.scopedRest cfg0.spec c) := by
  rw [x_parts, out_parts, scopedRest0_eq]
  unfold localSems memOut fFree gFree bAt rAt fAt gAt
  iintro ⟨Hx, Hos, Hb, Hr, Hl, ⟨⟨Hi0, %f0, Hf0⟩, ⟨Hi1, Hf1⟩⟩, ⟨⟨Hw0, %g0, Hg0⟩, ⟨Hw1, Hg1⟩⟩⟩
  ihave Hb := (some_blocks (ℓ := (c : Thread nD τ).loc cc0_scratch1) (bv m c) (fun k => (bCh k).view.set) chOf mem_bCh) $$ Hb
  ihave Hr := (some_blocks (ℓ := (c : Thread nD τ).loc cc0_scratch2) (bv m c) (fun k => (rCh k).view.set) chOf mem_rCh) $$ Hr
  ihave Hf := ((Entails.of_eq (bigSep_univ_two _).symm).trans (some_blocks (ℓ := (c : Thread nD τ).loc cc0_scratch0) f0 (fun s => (fSl s).view.set) slotOf mem_fSl)) $$ [Hf0 Hf1]
  · isplitl [Hf0]; · iexists f0; iexact Hf0
    iexact Hf1
  ihave Hg := ((Entails.of_eq (bigSep_univ_two _).symm).trans (some_blocks (ℓ := (c : Thread nD τ).loc cc0_scratch3) g0 (fun s => (gSl s).view.set) slotOf mem_gSl)) $$ [Hg0 Hg1]
  · isplitl [Hg0]; · iexists g0; iexact Hg0
    iexact Hg1
  isplitl [Hx]; · iexact Hx
  isplitl [Hos]; · iexact Hos
  isplitl [Hi0 Hi1 Hw0 Hw1 Hl]
  · isplitl [Hi0 Hi1]
    · isplitl [Hi0]; · iexact Hi0
      iexact Hi1
    isplitl [Hw0 Hw1]
    · isplitl [Hw0]; · iexact Hw0
      iexact Hw1
    iexact Hl
  isplitl [Hf]; · iexact Hf
  isplitl [Hb]; · iexact Hb
  isplitl [Hr]; · iexact Hr
  iexact Hg

end Cert.Gather

end
-- ==== Proof.Launch.lean ====
/-
  What every device starts from: the protocol's cells set up on all devices at once, each duty's token at the device that
  pays it, and the credits of the launch.
-/
module

public import proofs.«01_k».proof.Proof.Carving
public import Idealize.ShloMosaic.Lib.Pipeline.Launch
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The semaphores -/

/-- The kernel's own semaphores: the sending, the receiving ones, and the local copies'. -/
abbrev OI : Type := (Fin 8 ⊕ Fin 8) ⊕ ((Fin 2 ⊕ Fin 2) ⊕ Unit)
abbrev osem : OI → SemLoc sig
  | .inl (.inl k) => .dma (sendS k)
  | .inl (.inr k) => .dma (recvS k)
  | .inr (.inl (.inl s)) => .dma (inS s)
  | .inr (.inl (.inr s)) => .dma (outS s)
  | .inr (.inr _) => .dma locS

theorem ownSemFacts : Pipeline.OwnSemFacts cfg0.spec osem := by decide

omit [FloatOps F] in
theorem assoc_eq (P Q R : sProp 𝕄) : iprop((P ∗ Q) ∗ R) = iprop(P ∗ Q ∗ R) := by
  have h : iprop((P ∗ Q) ∗ R) ⊣⊢ iprop(P ∗ Q ∗ R) := sep_assoc
  exact equiv_iff.mp ⟨h.1, h.2⟩
omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ (fun k => semVal (sendCell c k) 0) ∗ bigSep Finset.univ fun k => semVal (recvCell c k) 0) ∗ localSems (F := F) c) := by
  unfold Pipeline.ownSems0 localSems
  rw [bigSep_univ_sum, bigSep_univ_sum, bigSep_univ_sum, bigSep_univ_sum, bigSep_univ_of_subsingleton (), bigSep_univ_two, bigSep_univ_two]
  exact congrArg (BIBase.sep _) (assoc_eq _ _ _)
omit [FloatOps F] in
/-- The barrier is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together: the protocol's cells' counters and the local copies'. -/
theorem sems_eq (c : Dev nD) :
    iprop((bigSep Finset.univ fun i : CI => semVal (kcell (c, i)) 0) ∗ localSems (F := F) c)
      ⊣⊢ (iprop(Pipeline.ownSems0 (Ix := Unit) (Name := ℕ) (U := UU) (Lvl := ℕ) (Val := Elt F) (τ := τ) osem c ∗ unscopedSems0 c) : sProp 𝕄) := by
  rw [ownSems0_eq, unscopedSems0_eq, cells_split]
  constructor
  · iintro ⟨⟨HB, HS, HR⟩, HL⟩
    isplitr [HB]
    · isplitl [HS HR]
      · isplitl [HS]; · iexact HS
        iexact HR
      iexact HL
    iexact HB
  · iintro ⟨⟨⟨HS, HR⟩, HL⟩, HB⟩
    isplitr [HL]
    · isplitl [HB]; · iexact HB
      isplitl [HS]; · iexact HS
      iexact HR
    iexact HL

/-! ## The protocol's part of the algebra at launch -/

def ringCells : Finset (GSem nD τ sig) := Finset.univ.map ⟨kcell, kcell_inj⟩
def tokOf (ck : Dev nD × CI) : GSem nD τ sig × ℕ × Unit := (kcell ck, 0, ())
theorem tokOf_inj : Function.Injective tokOf := fun _ _ h => kcell_inj (congrArg Prod.fst h)
def ringToks : Finset (GSem nD τ sig × ℕ × Unit) := Finset.univ.map ⟨tokOf, tokOf_inj⟩

def u₀ : UU :=
  (initOf (Pipeline.cells cfgs cellOf_inj) (Pipeline.launchToks cfgs cellOf_inj), (initOf ringCells ringToks, 1))

/-- The tokens of a device's own cells' duties. -/
def toks (c : Dev nD) : sProp 𝕄 := bigSep Finset.univ fun i : CI => dutyTok ER (kcell (c, i)) 0 ()

/-- What the launch deals device `c`. -/
def G (c : Dev nD) : sProp 𝕄 :=
  iprop((bigSep Finset.univ fun i : CI => roundState ER (ringRd m) (kcell (c, i)) 0)
    ∗ (places (F := F) c 0 ∗ bigSep Finset.univ fun i : CI => reached ER (kcell (c, i)) 0) ∗ toks (F := F) c)

/-- What it starts with, all cells of all devices set up. -/
def G' (c : Dev nD) : sProp 𝕄 := iprop((∃ K, recs m K) ∗ payToks (F := F) c ∗ places (F := F) c 0 ∗ localSems (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) = bigSep Finset.univ (toks (F := F)) := by
    unfold ringToks; rw [bigSep_map, bigSep_univ_prod]; rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hat Hr]
  · isplitl [Hat]; · iexact Hat
    iexact Hr
  iexact Htok

/-- One device's counters and round states become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (ringRd m) κ (kcell (c, i))))
          ∗ (bigSep Finset.univ fun i : CI => reached ER (kcell (c, i)) 0) ∗ toks (F := F) c ∗ places (F := F) c 0 ∗ localSems (F := F) c) := by
  unfold G
  iintro ⟨Hos, Hus, Hst, ⟨Hat, Hr⟩, Htok⟩
  ihave Hv := (sems_eq (F := F) c).2 $$ [Hos Hus]
  · isplitl [Hos] <;> iassumption
  icases Hv with ⟨Hv, HL⟩
  imod (show iprop((bigSep Finset.univ fun i : CI => semVal (kcell (c, i)) 0) ∗ bigSep Finset.univ fun i : CI => roundState ER (ringRd m) (kcell (c, i)) 0)
      ⊢ (|={Set.univ}=> bigSep Finset.univ fun i : CI => iprop(∃ κ : ℕ, cellInv ER (ringRd m) κ (kcell (c, i))) : sProp 𝕄) from by
        rw [← bigSep_sep']
        exact (bigSep_mono fun i _ => (Rounds.body_intro ER (ringRd m) (kcell (c, i))).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat]; · iexact Hat
  iexact HL

/-- Each token handed to the device that pays the duty: a barrier's and a receiving cell's to the peer. -/
theorem toks_across : (bigSep Finset.univ (toks (F := F)) : sProp 𝕄) ⊢ bigSep Finset.univ (payToks (F := F)) := by
  have hs (Φ : Dev nD → sProp 𝕄) : bigSep Finset.univ Φ = bigSep Finset.univ fun c => Φ (peer c) := bigSep_univ_equiv swap Φ
  have ht : (toks (F := F) : Dev nD → sProp 𝕄) = fun c => iprop(dutyTok ER (barCell c) 0 () ∗ bigSep Finset.univ (fun k => dutyTok ER (sendCell c k) 0 ())
      ∗ bigSep Finset.univ fun k => dutyTok ER (recvCell c k) 0 ()) := funext fun c => cells_split _
  have hp : (payToks (F := F) : Dev nD → sProp 𝕄) = fun c => iprop(dutyTok ER (barCell (peer c)) 0 () ∗ bigSep Finset.univ (fun k => dutyTok ER (sendCell c k) 0 ())
      ∗ bigSep Finset.univ fun k => dutyTok ER (recvCell (peer c) k) 0 ()) := funext fun c => by
    unfold payToks
    rw [show (bigSep Finset.univ (sendTok (F := F) c) : sProp 𝕄) = _ from bigSep_sep' _ _ _]
  rw [ht, hp, bigSep_sep', bigSep_sep', bigSep_sep', bigSep_sep', hs fun c => dutyTok ER (barCell c) 0 (),
    hs fun c => bigSep Finset.univ fun k => dutyTok ER (recvCell c k) 0 ()]

theorem regroup :
    (bigSep Finset.univ fun c : Dev nD => iprop((bigSep Finset.univ fun i : CI => iprop(∃ κ : ℕ, cellInv ER (ringRd m) κ (kcell (c, i))))
          ∗ (bigSep Finset.univ fun i : CI => reached ER (kcell (c, i)) 0) ∗ toks (F := F) c ∗ places (F := F) c 0 ∗ localSems (F := F) c) : sProp 𝕄)
      ⊢ bigSep Finset.univ (G' m) := by
  rw [bigSep_sep', bigSep_sep', bigSep_sep', bigSep_sep', ← bigSep_univ_prod (fun ck : Dev nD × CI => iprop(∃ κ : ℕ, cellInv ER (ringRd m) κ (kcell ck))),
    ← bigSep_univ_prod (fun ck : Dev nD × CI => (reached ER (kcell ck) 0 : sProp 𝕄))]
  iintro ⟨HI, #HR, Htok, Hrest⟩
  ihave HK := (BI.bigSep_exists_pi Finset.univ (fun (ck : Dev nD × CI) (κ : ℕ) => (cellInv ER (ringRd m) κ (kcell ck) : sProp 𝕄))) $$ HI
  icases HK with ⟨%K, #HI⟩
  ihave Htk := (toks_across (F := F)) $$ Htok
  iapply (bigSep_with_persistent (R := recs m K) (S := Finset.univ)
    (Φ := fun c : Dev nD => iprop(payToks (F := F) c ∗ places (F := F) c 0 ∗ localSems (F := F) c)) (Ψ := G' m)
    fun c _ => by unfold G'; exact sep_mono_left (exists_intro (Φ := fun K => recs m K) K))
  isplitr
  · unfold recs; isplitl; · iexact HI
    iexact HR
  rw [bigSep_sep', bigSep_sep']
  isplitl [Htk]; · iexact Htk
  iexact Hrest

/-- The step of the launch all devices take at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of the launch -/

theorem barCell_eq {a b : Dev nD} : Iff (barCell a = barCell b) (a = b) :=
  ⟨fun h => congrArg Prod.fst (kcell_inj (a₁ := (a, .inl ())) (a₂ := (b, .inl ())) h), fun h => h ▸ rfl⟩
theorem recvCell_eq {a b : Dev nD} {k l : Fin 8} : Iff (recvCell a k = recvCell b l) (a = b ∧ k = l) :=
  ⟨fun h => by have := kcell_inj (a₁ := (a, .inr (.inr k))) (a₂ := (b, .inr (.inr l))) h; cases this; exact ⟨rfl, rfl⟩, fun h => by rw [h.1, h.2]⟩
theorem recv_ne_bar (a b : Dev nD) (k : Fin 8) : recvCell a k ≠ barCell b := fun h => by cases congrArg Prod.snd h

theorem peer_eq {a b : Dev nD} : Iff (peer a = b) (a = peer b) := ⟨fun h => by rw [← h, peer_peer], fun h => by rw [h, peer_peer]⟩

theorem owed_bar (d c : Dev nD) : O₀ d (barCell c) () = if d = peer c then 1 else 0 := by
  have h0 : Osend d 0 (barCell c) () = 0 := by
    by_contra h
    obtain ⟨k, hk⟩ := Osend_pos (Nat.pos_of_ne_zero h)
    exact recv_ne_bar _ _ _ hk.symm
  unfold O₀
  rw [Pi.add_apply, Finsupp.add_apply, h0, Nat.zero_add, tallyAt_apply]
  by_cases h : d = peer c
  · rw [if_pos ⟨by rw [h, peer_peer], rfl⟩, if_pos h]
  · rw [if_neg fun hh => h (peer_eq.mp (barCell_eq.mp hh.1).symm), if_neg h]

theorem owed_recv (d c : Dev nD) (k : Fin 8) : O₀ d (recvCell c k) () = if d = peer c then N else 0 := by
  unfold O₀ Osend
  rw [Pi.add_apply, Finsupp.add_apply, tallyAt_apply, if_neg (fun h => recv_ne_bar _ _ _ h.1), Nat.add_zero, Finset.sum_apply, Finsupp.finset_sum_apply,
    ge_zero, Finset.sum_eq_single k (fun j _ hj => by rw [tallyAt_apply, if_neg fun h => hj (recvCell_eq.mp h.1).2.symm])
      (fun h => absurd (Finset.mem_univ _) h), tallyAt_apply]
  by_cases h : d = peer c
  · rw [if_pos ⟨by rw [h, peer_peer], rfl⟩, if_pos h]
  · rw [if_neg fun hh => h (peer_eq.mp (recvCell_eq.mp hh.1).1.symm), if_neg h]

/-- A cell that one device alone owes, `n` units: its launch credit. -/
theorem launch_cell (g : GSem nD τ sig) (e : Dev nD) (n : ℕ) (h : ∀ d, O₀ d g () = if d = e then n else 0) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ e fun _ => n,
    if_pos (Finset.mem_univ _)]

omit [FloatOps F] in
theorem creds (c : Dev nD) : (Pipeline.launchCred O₀ c : sProp 𝕄) ⊢ startCred (F := F) c := by
  unfold Pipeline.launchCred startCred
  rw [bigSep_univ_at _ (SemLoc.reg barS), launch_cell (barCell c) (peer c) 1 fun d => owed_bar d c]
  refine sep_mono_right ((bigSep_subset (t := Finset.univ.map ⟨fun k : Fin 8 => (SemLoc.dma (recvS k) : SemLoc sig), fun a b h => recvS_inj (dma_inj h)⟩) ?_).trans ?_)
  · intro sm h
    obtain ⟨k, -, rfl⟩ := Finset.mem_map.mp h
    exact Finset.mem_erase.mpr ⟨dma_ne_bar _, Finset.mem_univ _⟩
  · rw [bigSep_map]
    exact Entails.of_eq (bigSep_congr fun k _ => by
      show cred (tallyOn (recvCell c k) (launchCredit (Pipeline.owing O₀) 0 (recvCell c k))) = _
      rw [launch_cell (recvCell c k) (peer c) N fun d => owed_recv d c k])

end Cert.Gather

end
-- ==== Proof.ProgramEq.lean ====
/-
  The printed body is the sequence of steps.
-/
module

public import proofs.«01_k».proof.Proof.Program

@[expose] public section

noncomputable section

namespace Cert.Gather

open Cert.KernelIdeal Cert.KernelIdeal.Gen
open Idealize.ShloMosaic
open Idealize.ShloMosaic.TcCoe
open Idealize.SL Idealize.SL.Sem

variable {F : FTy → Type} [FloatOps F]

set_option maxRecDepth 65536 in
theorem body_eq : bodyAt0 (F := F) t0_0 = body (F := F) := rfl

end Cert.Gather

end
-- ==== Proof.Run.lean ====
/-
  The run: the launch theorem at the body's rule, from any memory with zero counters.
-/
module

public import proofs.«01_k».proof.Proof.Launch
public import proofs.«01_k».proof.Proof.ProgramEq
public import Idealize.ShloMosaic.Lib.Pipeline.Kit

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- Device `c`'s argument and result arrays, the result at contents `v`. -/
def arrays (c : Dev nD) (v : Buf (Elt F) ((c : Thread nD τ).loc main_v1)) : sProp 𝕄 :=
  iprop(((c : Thread nD τ).loc main_arg0 ↦{fullShare} m ((c : Thread nD τ).loc main_arg0)) ∗ (c : Thread nD τ).loc main_v1 ↦{fullShare} v)

/-- What device `c` starts with. -/
def start (c : Dev nD) : sProp 𝕄 :=
  iprop(G' m c ∗ startCred (F := F) c ∗ levAts L lv ∗ arrays m c (m ((c : Thread nD τ).loc main_v1)))

/-- What it ends with. -/
def ending (c : Dev nD) : sProp 𝕄 := iprop(arrays m c (outv m c) ∗ unscopedSems0 c)

def Φ₀ (c : Dev nD) : sProp 𝕄 := iprop(start m c ∗ Pipeline.scopedRest cfg0.spec c)
def Φ₁ (c : Dev nD) : sProp 𝕄 :=
  iprop(arrays m c (outv m c) ∗ (bigSep Finset.univ fun i : CI => semVal (kcell (c, i)) 0) ∗ localSems (F := F) c ∗ Pipeline.scopedRest cfg0.spec c)

def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem no_window (Φ : Fin cfg0.W → sProp (MT nD τ sig Unit (Elt F) ℕ UU ℕ)) : bigSep Finset.univ Φ = iprop(emp) := by
  rw [show (Finset.univ : Finset (Fin cfg0.W)) = ∅ from rfl, bigSep_empty]; rfl

/-- The run of the body on device `c`, from the start to the end. -/
theorem run_body (c : Dev nD) :
    iprop(Φ₀ m c ∗ (dats m 0 c).owesAt () (t0_0 : Fin cfg0.N).castSucc ∗ emp)
      ⊢ WP c (body (F := F)) fun _ => iprop(Φ₁ m c ∗ (dats m 0 c).owesAt () (t0_0 : Fin cfg0.N).succ ∗ emp) := by
  unfold Φ₀ start G' arrays
  iintro ⟨⟨⟨⟨⟨%K, #HR⟩, Hpay, Hpl, HL⟩, Hcr, #Hlev, Hx, Hv⟩, Hs⟩, Ho, -⟩
  unfold Pipeline.Dat.owesAt Pipeline.owesWithin
  icases Ho with ⟨%W, -, Ho⟩
  ihave Hm := (mem_cut m c) $$ [Hx Hv HL Hs]
  · isplitl [Hx]; · iexact Hx
    isplitl [Hv]; · iexact Hv
    isplitl [HL]; · iexact HL
    iexact Hs
  iapply (wp_body (m := m) (K := K) c W) $$ [Hpay Hpl Hcr Ho Hm]
  · isplitr; · iexact HR
    isplitr; · iexact Hlev
    isplitl [Ho]; · iexact Ho
    isplitl [Hpay]; · iexact Hpay
    isplitl [Hcr]; · iexact Hcr
    isplitl [Hpl]; · iexact Hpl
    iexact Hm
  iintro ⟨Hm, Hz, %W', Ho⟩
  ihave Hm := (mem_join m c) $$ Hm
  icases Hm with ⟨Hx, Hv, HL, Hs⟩
  unfold Φ₁ arrays
  isplitl [Hx Hv Hz HL Hs]
  · isplitl [Hx Hv]
    · isplitl [Hx]; · iexact Hx
      iexact Hv
    isplitl [Hz]; · iexact Hz
    isplitl [HL]; · iexact HL
    iexact Hs
  isplitl [Ho]
  · iexists W'
    isplitr; · ipureintro; exact fun _ _ => Or.inl trivial
    iexact Ho
  iempintro

set_option maxRecDepth 8000 in
theorem body_obligation (c : Dev nD) : Pipeline.BodyObligation (dats (F := F) m 0 c) (defs₀ (F := F)) 𝒱₀ () Set.univ := fun t => by
  rw [show t = (t0_0 : Fin cfg0.N) from fin_N0 t, no_window]
  simp only [no_window]
  have h := run_body m c
  rw [← body_eq] at h
  exact h

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (creds (F := F) c) $$ Hcr
  imodintro
  unfold start arrays
  isplitl
  · isplitl [HG]; · iexact HG
    isplitl [Hc]; · iexact Hc
    isplitl [Hlev]; · iexact Hlev
    iexact Ha
  iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop(ending m c ∗ Pipeline.ownSems0 osem c ∗ Pipeline.scopedRest cfg0.spec c) := by
  rw [show (dats m 0 c).Φ (Fin.last cfg0.N) = Φ₁ m c from rfl]
  unfold Φ₁ ending
  iintro ⟨Ha, Hz, HL, Hr⟩
  ihave Hs := (sems_eq (F := F) c).1 $$ [Hz HL]
  · isplitl [Hz] <;> iassumption
  icases Hs with ⟨Hos, Hus⟩
  isplitl [Ha Hus]
  · isplitl [Ha]; · iexact Ha
    iexact Hus
  isplitl [Hos]; · iexact Hos
  iexact Hr

theorem waits (c : Dev nD) : (levAts L lv : sProp 𝕄) ⊢ Pipeline.cellsWaits cfgs (dats m) () 0 c :=
  Pipeline.cellsWaits_intro cfgs (dats m) () 0 c fun w => w.elim0

/-- What the run leaves on device `c`: the whole of the gathered array, its argument unchanged, its barrier at zero. -/
def Left (c : Dev nD) (s : MemSt nD τ sig (Elt F)) : Prop :=
  (s.mem ((c : Thread nD τ).loc main_v1) = outv m c ∧ s.mem ((c : Thread nD τ).loc main_arg0) = m ((c : Thread nD τ).loc main_arg0))
    ∧ ∀ sm : SemLoc sig, sm.isScoped .tc = false → s.sem ((c.tc : Thread nD τ), sm) = 0

theorem ending_read (c : Dev nD) (s' : Phys nD τ sig (Elt F)) :
    iprop(ending m c ∗ emp ∗ SI s') ⊢ |={Set.univ}=> iprop(⌜Left m c s'.mem⌝ ∗ SI s' : sProp 𝕄) := by
  unfold ending arrays
  iintro ⟨⟨⟨Hx, Hv⟩, Hu⟩, -, HSI⟩
  icombine HSI Hx gives %hx
  icombine HSI Hv gives %hv
  imod (Pipeline.unscopedSems0_read (X := unscopedSems0 c) (c := c) fupd_intro s') $$ [Hu HSI] with ⟨%hz, HSI⟩
  · isplitl [Hu] <;> iassumption
  imodintro
  isplitr; · ipureintro; exact ⟨⟨Buf.eq_of_forall_mem_univ hv, Buf.eq_of_forall_mem_univ hx⟩, hz⟩
  iexact HSI

omit [FloatOps F] in
/-- The protocol's share of what the launch hands out. -/
theorem ring_own : BI.own (embR ((initOf ringCells ringToks, 1) : UX)) ⊢ (BI.own (ER (initOf ringCells ringToks)) : sProp 𝕄) := by
  have h := own_pair_emb (embR : Emb UX 𝕄) (initOf ringCells ringToks) (1 : Counters)
  iintro HX
  ihave HX := h $$ HX
  icases HX with ⟨HX, -⟩
  iexact HX

set_option maxRecDepth 8000 in
/-- From any memory with zero counters, over any floats: every weakly fair execution of the sixteen devices terminates,
    and leaves each the gathered array, its argument as it was, and every semaphore at zero. -/
theorem run_main : θ_run defs (onTc (τ := τ) (main (F := F))) (s₀ m ρ) (fun r =>
    (∀ c : Dev nD, r.2.mem ((c : Thread nD τ).loc main_v1) = outv m c ∧ r.2.mem ((c : Thread nD τ).loc main_arg0) = m ((c : Thread nD τ).loc main_arg0))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (ring_own (F := F)) $$ HX
      imod (fund_ring m) $$ HX with HG
      imodintro
      isplitl [HP] <;> iassumption)
    (hglob := glob m)
    (hA := fun _ w => w.elim0) (hpf := fun _ k => k.elim0)
    (X := start m) (Y := ending m) (Z := fun _ => iprop(emp))
    (hX := start_intro m ρ) (hin := phi0_intro m) (hout := phi1_exit m)
    (QY := Left m) (hY := ending_read m)
    (hQ := fun _ h hs => ⟨fun c => (h c).2.2.1, sem_eq_zero hs fun c => (h c).2.2.2⟩)

end Cert.Gather

end
-- ==== Proof.Value.lean ====
/-
  The values: over the ideal floats rounding changes nothing, so from the blocks of an array the gathered array is that array.
-/
module

public import proofs.«01_k».proof.Proof.Contents
public import Idealize.ShloMosaic.Lib.Layout
public import Idealize.ShloMosaic.PureOps.IdealRules

@[expose] public section

noncomputable section

namespace Cert.Gather

open Cert.KernelIdeal Cert.KernelIdeal.Gen
open Idealize.ShloMosaic
open Idealize.ShloMosaic.TcCoe

/-- The blocks: device `d` holds the half of `X` its place on the mesh's second axis names. -/
def Holds (m : (ℓ : Loc nD τ sig) → Buf (Elt Ideal) ℓ) (X : FVec Ideal S8192x1024 .f32) : Prop :=
  ∀ d : Dev nD, m ((d : Thread nD τ).loc main_arg0) = Layout.blockN S4096x1024 S8192x1024 (Layout.meshBlock [2, 2, 4] ![[1], []] d) X

theorem half_eq (d : Dev nD) : Layout.meshLin [2, 2, 4] d.val [1] = (d.val / 4) % 2 := by revert d; decide

/-- What a row of the device's block holds: the row of the array under its half. -/
theorem xv_at {m : (ℓ : Loc nD τ sig) → Buf (Elt Ideal) ℓ} {X : FVec Ideal S8192x1024 .f32} (h : Holds m X) (d : Dev nD)
    (i : S8192x1024.Idx) (hi : (i 0).val / 4096 = (d.val / 4) % 2) : (show FVec Ideal S4096x1024 .f32 from xv m d) (low i) = X i := by
  unfold xv
  rw [h d]
  refine congrArg X (funext fun a => Fin.ext ?_)
  rw [Layout.TilesN.idx_val]
  fin_cases a
  · show Layout.meshLin [2, 2, 4] d.val [1] * 4096 + (i 0).val % 4096 = (i 0).val
    rw [half_eq, ← hi]; omega
  · show 0 * 1024 + (i 1).val = (i 1).val
    rw [Nat.zero_mul, Nat.zero_add]

theorem peer_half (c : Dev nD) : ((peer c).val / 4) % 2 = 1 - (c.val / 4) % 2 := by revert c; decide

/-- Every device gathers the whole array. -/
theorem outv_whole {m : (ℓ : Loc nD τ sig) → Buf (Elt Ideal) ℓ} {X : FVec Ideal S8192x1024 .f32} (h : Holds m X) (c : Dev nD) :
    outv m c = X := by
  funext i
  unfold outv
  show (if (i 0).val / 4096 = (c.val / 4) % 2 then xv m c (low i) else (show FVec Ideal S4096x1024 .f32 from xv m (peer c)) (low i)) = X i
  by_cases hi : (i 0).val / 4096 = (c.val / 4) % 2
  · rw [if_pos hi]; exact xv_at h c i hi
  · rw [if_neg hi]
    refine xv_at h (peer c) i ?_
    rw [peer_half]
    have h0 : (i 0).val < 8192 := (i 0).isLt
    omega

end Cert.Gather

end
-- ==== Proof.Reference.lean ====
/-
  The reference: it returns its argument, so its run changes nothing.
-/
module

public import proofs.«01_k».proof.Proof.Gen.ReferenceIdeal
public import Idealize.ShloMosaic.Lib.StableHlo.RunHlo
public import Idealize.ShloMosaic.Lib.Quiescent

@[expose] public section

noncomputable section

namespace Cert.Gather

open Idealize.ShloMosaic Idealize.SL.Sem

/-- From any memory with zero counters the reference ends with its argument as it was and every counter at zero. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      (∀ c : Dev Cert.ReferenceIdeal.nD, r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0 :=
  θ_run_mono (StableHlo.run_hlo _ _ (ops := []) (fun _ => StableHlo.IsSeq.nil) (by decide) (by decide) trivial (fun _ h => nomatch h) m ρ)
    fun r h => ⟨fun c => h c Cert.ReferenceIdeal.main_arg0, sem_eq_zero_of_no_sems (by decide) r.2⟩

end Cert.Gather

end
-- ==== Proof.lean ====
/- The certificate's claims, from the kernel's run (Proof/Run.lean), its values (Proof/Value.lean) and the reference's run
   (Proof/Reference.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem

/-- The kernel as printed runs, keeps its argument and ends quiescent: its text is the idealised one's, run at the machine's
    floats. -/
theorem frame_kernel : Cert.quiescent_Kernel := fun m g _ =>
  (θ_run (Cert.KernelIdeal.defs (F := Bits)) _ _).mono (fun _ h => ⟨fun c => (h.1 c).2, h.2⟩) (Cert.Gather.run_main (F := Bits) m g)

theorem frame_kernelIdeal : Cert.quiescent_KernelIdeal := fun m g _ =>
  θ_run_mono (Cert.Gather.run_main (F := Ideal) m g) fun _ h => ⟨fun c => (h.1 c).2, h.2⟩

theorem frame_reference : Cert.quiescent_ReferenceIdeal := fun m g _ => Cert.Gather.run_reference m g

/-- Every device's result is the whole array the devices' blocks are cut from, which is what the reference returns. -/
theorem gathers : Cert.algebraic_KernelIdeal_ReferenceIdeal := fun m g m' g' _ hm =>
  ⟨m' (((0 : Dev Cert.ReferenceIdeal.nD).tc : Thread Cert.ReferenceIdeal.nD Cert.ReferenceIdeal.τ).loc Cert.ReferenceIdeal.main_arg0),
    θ_run_mono (Cert.Gather.run_main (F := Ideal) m g) fun _ h c => ⟨(h.1 c).1.trans (Cert.Gather.outv_whole hm c), (h.1 c).2⟩,
    θ_run_mono (Cert.Gather.run_reference m' g') fun _ h => ⟨h.1 0, h.1 0⟩⟩

theorem claim : Cert.Claim :=
  ⟨Cert.Kernel.Gen.facts, Cert.KernelIdeal.Gen.facts, Cert.ReferenceIdeal.Gen.facts,
    frame_kernel, frame_kernelIdeal, frame_reference, trivial, gathers⟩

end Cert.Proof

end
